-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S4096x2048 : Shape := ⟨2, ![4096, 2048]⟩
abbrev S2x128x2048 : Shape := ⟨3, ![2, 128, 2048]⟩
abbrev S2 : Shape := ⟨1, ![2]⟩
abbrev S_ : Shape := ⟨0, ![]⟩
abbrev S1 : Shape := ⟨1, ![1]⟩
abbrev S256x128 : Shape := ⟨2, ![256, 128]⟩
abbrev S256x2048 : Shape := ⟨2, ![256, 2048]⟩
abbrev S1x128x2048 : Shape := ⟨3, ![1, 128, 2048]⟩
abbrev S1x256x2048 : Shape := ⟨3, ![1, 256, 2048]⟩
abbrev S1x1x1 : Shape := ⟨3, ![1, 1, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S4096x2048, .f32⟩
  | .local _ .vmem, ⟨0, _⟩ => ⟨S4096x128, .bf16⟩
  | .local _ .vmem, ⟨1, _⟩ => ⟨S128x2048, .bf16⟩
  | .local _ .vmem, ⟨2, _⟩ => ⟨S4096x2048, .f32⟩
  | .local _ .vmem, ⟨3, _⟩ => ⟨S2x128x2048, .bf16⟩
  | .local _ .vmem, ⟨4, _⟩ => ⟨S2x128x2048, .bf16⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 3 7 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21 : BitVec 32 := 1#32
  let v32 : BitVec 32 := Scalar.muli v13 c1_i32_21
  let v33 : BitVec 32 := Scalar.addi c0_i32_22 v32
  v33.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25 : BitVec 32 := 1#32
  let v36 : BitVec 32 := Scalar.muli v13 c1_i32_25
  let v37 : BitVec 32 := Scalar.addi c0_i32_26 v36
  v37.toNat
@[reducible] def k0_t1_loop : Scf.Loop 32 :=
  let c0_i32_28 : BitVec 32 := 0#32
  let c16_i32 : BitVec 32 := 16#32
  let v40 : BitVec 32 := Scalar.addi c0_i32_28 c16_i32
  let c1_i32_29 : BitVec 32 := 1#32
  ⟨c0_i32_28, v40, c1_i32_29⟩
def k0_off1 (k0_t1 : Fin k0_t1_loop.trips) : Fin 2 → Nat :=
  let c0_i32_28 : BitVec 32 := 0#32
  let c1_i32_29 : BitVec 32 := 1#32
  let arg8 : BitVec 32 := Scf.iv c0_i32_28 c1_i32_29 k0_t1
  let c256_i32 : BitVec 32 := 256#32
  let v51 : BitVec 32 := Scalar.muli arg8 c256_i32
  let v52 : Index := Scalar.indexCast v51
  let c0_53 : Index := 0#32
  ![v52.toNat, 0]
def k0_off2 (k0_t1 : Fin k0_t1_loop.trips) : Fin 2 → Nat :=
  let c0_i32_28 : BitVec 32 := 0#32
  let c1_i32_29 : BitVec 32 := 1#32
  let arg8 : BitVec 32 := Scf.iv c0_i32_28 c1_i32_29 k0_t1
  let c256_i32_55 : BitVec 32 := 256#32
  let v56 : BitVec 32 := Scalar.muli arg8 c256_i32_55
  let v57 : Index := Scalar.indexCast v56
  let c0_56 : Index := 0#32
  ![v57.toNat, 0]
@[reducible] def k0_t2_loop : Scf.Loop 32 :=
  let c0_i32_31 : BitVec 32 := 0#32
  let c31_i32 : BitVec 32 := 31#32
  let v41 : BitVec 32 := Scalar.addi c0_i32_31 c31_i32
  let c1_i32_32 : BitVec 32 := 1#32
  ⟨c0_i32_31, v41, c1_i32_32⟩
def k0_off3 (k0_t2 : Fin k0_t2_loop.trips) : Fin 1 → Nat :=
  let c0_i32_31 : BitVec 32 := 0#32
  let c1_i32_32 : BitVec 32 := 1#32
  let arg8 : BitVec 32 := Scf.iv c0_i32_31 c1_i32_32 k0_t2
  let c2_i32_66 : BitVec 32 := 2#32
  let v74 : BitVec 32 := Scalar.remsi arg8 c2_i32_66
  ![v74.toNat]
def k0_off4 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_31 : BitVec 32 := 0#32
  let c1_i32_32 : BitVec 32 := 1#32
  let arg8 : BitVec 32 := Scf.iv c0_i32_31 c1_i32_32 k0_t2
  let v51 : BitVec 32 := Scalar.subi v2 arg8
  let c32_i32_53 : BitVec 32 := 32#32
  let c0_i32_54 : BitVec 32 := 0#32
  let v52 : BitVec 1 := Scalar.cmpi .eq c32_i32_53 c0_i32_54
  let c1_i32_55 : BitVec 32 := 1#32
  let v53 : BitVec 32 := Scalar.select v52 c1_i32_55 c32_i32_53
  let v54 : BitVec 32 := Scalar.remsi v51 v53
  let c0_i32_57 : BitVec 32 := 0#32
  let v56 : BitVec 1 := Scalar.cmpi .slt v54 c0_i32_57
  let c0_i32_58 : BitVec 32 := 0#32
  let v57 : BitVec 1 := Scalar.cmpi .slt v53 c0_i32_58
  let v58 : BitVec 1 := Scalar.xori v56 v57
  let c0_i32_56 : BitVec 32 := 0#32
  let v55 : BitVec 1 := Scalar.cmpi .ne v54 c0_i32_56
  let v59 : BitVec 1 := Scalar.andi v58 v55
  let v60 : BitVec 32 := Scalar.addi v54 v53
  let v61 : BitVec 32 := Scalar.select v59 v60 v54
  let c128_i32 : BitVec 32 := 128#32
  let v77 : BitVec 32 := Scalar.muli v61 c128_i32
  let v78 : Index := Scalar.indexCast v77
  let c0_69 : Index := 0#32
  ![v78.toNat, 0]
def k0_off5 (k0_t2 : Fin k0_t2_loop.trips) : Fin 3 → Nat :=
  let c0_i32_31 : BitVec 32 := 0#32
  let c1_i32_32 : BitVec 32 := 1#32
  let arg8 : BitVec 32 := Scf.iv c0_i32_31 c1_i32_32 k0_t2
  let c2_i32_66 : BitVec 32 := 2#32
  let v74 : BitVec 32 := Scalar.remsi arg8 c2_i32_66
  let v82 : Index := Scalar.indexCast v74
  let c0_70 : Index := 0#32
  let c0_71 : Index := 0#32
  ![v82.toNat, 0, 0]
def k0_off6 (k0_t2 : Fin k0_t2_loop.trips) : Fin 3 → Nat :=
  let c0_i32_31 : BitVec 32 := 0#32
  let c1_i32_32 : BitVec 32 := 1#32
  let arg8 : BitVec 32 := Scf.iv c0_i32_31 c1_i32_32 k0_t2
  let c2_i32_66 : BitVec 32 := 2#32
  let v74 : BitVec 32 := Scalar.remsi arg8 c2_i32_66
  let c0_i32_74 : BitVec 32 := 0#32
  let c0_i32_75 : BitVec 32 := 0#32
  ![v74.toNat, 0, 0]
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_72 : BitVec 32 := 1#32
  let v86 : BitVec 32 := Scalar.muli v24 c1_i32_72
  let v87 : BitVec 32 := Scalar.addi c0_i32_73 v86
  v87.toNat
def k0_off7 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_31 : BitVec 32 := 0#32
  let c1_i32_32 : BitVec 32 := 1#32
  let arg8 : BitVec 32 := Scf.iv c0_i32_31 c1_i32_32 k0_t2
  let v62 : BitVec 32 := Scalar.subi v2 arg8
  let c1_i32_59 : BitVec 32 := 1#32
  let v63 : BitVec 32 := Scalar.subi v62 c1_i32_59
  let c32_i32_60 : BitVec 32 := 32#32
  let c0_i32_61 : BitVec 32 := 0#32
  let v64 : BitVec 1 := Scalar.cmpi .eq c32_i32_60 c0_i32_61
  let c1_i32_62 : BitVec 32 := 1#32
  let v65 : BitVec 32 := Scalar.select v64 c1_i32_62 c32_i32_60
  let v66 : BitVec 32 := Scalar.remsi v63 v65
  let c0_i32_64 : BitVec 32 := 0#32
  let v68 : BitVec 1 := Scalar.cmpi .slt v66 c0_i32_64
  let c0_i32_65 : BitVec 32 := 0#32
  let v69 : BitVec 1 := Scalar.cmpi .slt v65 c0_i32_65
  let v70 : BitVec 1 := Scalar.xori v68 v69
  let c0_i32_63 : BitVec 32 := 0#32
  let v67 : BitVec 1 := Scalar.cmpi .ne v66 c0_i32_63
  let v71 : BitVec 1 := Scalar.andi v70 v67
  let v72 : BitVec 32 := Scalar.addi v66 v65
  let v73 : BitVec 32 := Scalar.select v71 v72 v66
  let c128_i32_89 : BitVec 32 := 128#32
  let v110 : BitVec 32 := Scalar.muli v73 c128_i32_89
  let v111 : Index := Scalar.indexCast v110
  let c0_90 : Index := 0#32
  ![v111.toNat, 0]
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_95 : BitVec 32 := 1#32
  let v123 : BitVec 32 := Scalar.muli v13 c1_i32_95
  let v124 : BitVec 32 := Scalar.addi c0_i32_96 v123
  v124.toNat
@[reducible] def k0_t3_loop : Scf.Loop 32 :=
  let c0_i32_34 : BitVec 32 := 0#32
  let c31_i32_35 : BitVec 32 := 31#32
  let v42 : BitVec 32 := Scalar.addi c0_i32_34 c31_i32_35
  let c1_i32_36 : BitVec 32 := 1#32
  ⟨c0_i32_34, v42, c1_i32_36⟩
def k0_off8 (k0_t3 : Fin k0_t3_loop.trips) : Fin 1 → Nat :=
  let c0_i32_34 : BitVec 32 := 0#32
  let c1_i32_36 : BitVec 32 := 1#32
  let arg8 : BitVec 32 := Scf.iv c0_i32_34 c1_i32_36 k0_t3
  let c31_i32_53 : BitVec 32 := 31#32
  let v51 : BitVec 32 := Scalar.addi arg8 c31_i32_53
  let c2_i32_67 : BitVec 32 := 2#32
  let v75 : BitVec 32 := Scalar.remsi v51 c2_i32_67
  ![v75.toNat]
def k0_off9 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_54 : BitVec 32 := 1#32
  let v52 : BitVec 32 := Scalar.addi v2 c1_i32_54
  let c0_i32_34 : BitVec 32 := 0#32
  let c1_i32_36 : BitVec 32 := 1#32
  let arg8 : BitVec 32 := Scf.iv c0_i32_34 c1_i32_36 k0_t3
  let v53 : BitVec 32 := Scalar.subi v52 arg8
  let c32_i32_55 : BitVec 32 := 32#32
  let c0_i32_56 : BitVec 32 := 0#32
  let v54 : BitVec 1 := Scalar.cmpi .eq c32_i32_55 c0_i32_56
  let c1_i32_57 : BitVec 32 := 1#32
  let v55 : BitVec 32 := Scalar.select v54 c1_i32_57 c32_i32_55
  let v56 : BitVec 32 := Scalar.remsi v53 v55
  let c0_i32_59 : BitVec 32 := 0#32
  let v58 : BitVec 1 := Scalar.cmpi .slt v56 c0_i32_59
  let c0_i32_60 : BitVec 32 := 0#32
  let v59 : BitVec 1 := Scalar.cmpi .slt v55 c0_i32_60
  let v60 : BitVec 1 := Scalar.xori v58 v59
  let c0_i32_58 : BitVec 32 := 0#32
  let v57 : BitVec 1 := Scalar.cmpi .ne v56 c0_i32_58
  let v61 : BitVec 1 := Scalar.andi v60 v57
  let v62 : BitVec 32 := Scalar.addi v56 v55
  let v63 : BitVec 32 := Scalar.select v61 v62 v56
  let c128_i32 : BitVec 32 := 128#32
  let v78 : BitVec 32 := Scalar.muli v63 c128_i32
  let v79 : Index := Scalar.indexCast v78
  let c0_70 : Index := 0#32
  ![v79.toNat, 0]
def k0_off10 (k0_t3 : Fin k0_t3_loop.trips) : Fin 3 → Nat :=
  let c0_i32_34 : BitVec 32 := 0#32
  let c1_i32_36 : BitVec 32 := 1#32
  let arg8 : BitVec 32 := Scf.iv c0_i32_34 c1_i32_36 k0_t3
  let c31_i32_53 : BitVec 32 := 31#32
  let v51 : BitVec 32 := Scalar.addi arg8 c31_i32_53
  let c2_i32_67 : BitVec 32 := 2#32
  let v75 : BitVec 32 := Scalar.remsi v51 c2_i32_67
  let v83 : Index := Scalar.indexCast v75
  let c0_71 : Index := 0#32
  let c0_72 : Index := 0#32
  ![v83.toNat, 0, 0]
def k0_off11 (k0_t3 : Fin k0_t3_loop.trips) : Fin 3 → Nat :=
  let c0_i32_34 : BitVec 32 := 0#32
  let c1_i32_36 : BitVec 32 := 1#32
  let arg8 : BitVec 32 := Scf.iv c0_i32_34 c1_i32_36 k0_t3
  let c31_i32_53 : BitVec 32 := 31#32
  let v51 : BitVec 32 := Scalar.addi arg8 c31_i32_53
  let c2_i32_67 : BitVec 32 := 2#32
  let v75 : BitVec 32 := Scalar.remsi v51 c2_i32_67
  let c0_i32_75 : BitVec 32 := 0#32
  let c0_i32_76 : BitVec 32 := 0#32
  ![v75.toNat, 0, 0]
def k0_dev7 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_73 : BitVec 32 := 1#32
  let v87 : BitVec 32 := Scalar.muli v24 c1_i32_73
  let v88 : BitVec 32 := Scalar.addi c0_i32_74 v87
  v88.toNat
def k0_off12 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let c1_i32_36 : BitVec 32 := 1#32
  let arg8 : BitVec 32 := Scf.iv c0_i32_34 c1_i32_36 k0_t3
  let v64 : BitVec 32 := Scalar.subi v2 arg8
  let c32_i32_61 : BitVec 32 := 32#32
  let c0_i32_62 : BitVec 32 := 0#32
  let v65 : BitVec 1 := Scalar.cmpi .eq c32_i32_61 c0_i32_62
  let c1_i32_63 : BitVec 32 := 1#32
  let v66 : BitVec 32 := Scalar.select v65 c1_i32_63 c32_i32_61
  let v67 : BitVec 32 := Scalar.remsi v64 v66
  let c0_i32_65 : BitVec 32 := 0#32
  let v69 : BitVec 1 := Scalar.cmpi .slt v67 c0_i32_65
  let c0_i32_66 : BitVec 32 := 0#32
  let v70 : BitVec 1 := Scalar.cmpi .slt v66 c0_i32_66
  let v71 : BitVec 1 := Scalar.xori v69 v70
  let c0_i32_64 : BitVec 32 := 0#32
  let v68 : BitVec 1 := Scalar.cmpi .ne v67 c0_i32_64
  let v72 : BitVec 1 := Scalar.andi v71 v68
  let v73 : BitVec 32 := Scalar.addi v67 v66
  let v74 : BitVec 32 := Scalar.select v72 v73 v67
  let c128_i32_92 : BitVec 32 := 128#32
  let v115 : BitVec 32 := Scalar.muli v74 c128_i32_92
  let v116 : Index := Scalar.indexCast v115
  let c0_93 : Index := 0#32
  ![v116.toNat, 0]
def k0_dev8 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_95 : BitVec 32 := 1#32
  let v120 : BitVec 32 := Scalar.muli v13 c1_i32_95
  let v121 : BitVec 32 := Scalar.addi c0_i32_96 v120
  v121.toNat
@[reducible] def k0_t4_loop : Scf.Loop 32 :=
  let c0_i32_44 : BitVec 32 := 0#32
  let c16_i32_45 : BitVec 32 := 16#32
  let v47 : BitVec 32 := Scalar.addi c0_i32_44 c16_i32_45
  let c1_i32_46 : BitVec 32 := 1#32
  ⟨c0_i32_44, v47, c1_i32_46⟩
def k0_off13 (k0_t4 : Fin k0_t4_loop.trips) : Fin 2 → Nat :=
  let c0_i32_44 : BitVec 32 := 0#32
  let c1_i32_46 : BitVec 32 := 1#32
  let arg8 : BitVec 32 := Scf.iv c0_i32_44 c1_i32_46 k0_t4
  let c256_i32 : BitVec 32 := 256#32
  let v51 : BitVec 32 := Scalar.muli arg8 c256_i32
  let v52 : Index := Scalar.indexCast v51
  let c0_53 : Index := 0#32
  ![v52.toNat, 0]
@[reducible] def k0_t5_loop : Scf.Loop 32 :=
  let c0_i32_49 : BitVec 32 := 0#32
  let c16_i32_50 : BitVec 32 := 16#32
  let v50 : BitVec 32 := Scalar.addi c0_i32_49 c16_i32_50
  let c1_i32_51 : BitVec 32 := 1#32
  ⟨c0_i32_49, v50, c1_i32_51⟩
def k0_off14 (k0_t5 : Fin k0_t5_loop.trips) : Fin 2 → Nat :=
  let c0_i32_49 : BitVec 32 := 0#32
  let c1_i32_51 : BitVec 32 := 1#32
  let arg8 : BitVec 32 := Scf.iv c0_i32_49 c1_i32_51 k0_t5
  let c256_i32 : BitVec 32 := 256#32
  let v51 : BitVec 32 := Scalar.muli arg8 c256_i32
  let v52 : Index := Scalar.indexCast v51
  let c0_53 : Index := 0#32
  ![v52.toNat, 0]
abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.Mesh.lean ====
/-
  The ring of thirty-two devices, and the kernel's words read as numbers: which device a signal or a transfer goes to, which
  rows and which slot a hop works on, how many trips each loop makes.
-/
module

public import proofs.«01_k».proof.Proof.Gen.KernelIdeal

@[expose] public section

namespace Cert.Proof

open Idealize.ShloMosaic
open Cert.KernelIdeal Cert.KernelIdeal.Gen

set_option backward.proofsInPublic true in
/-- The next device on the ring. -/
def nxt (c : Dev nD) : Dev nD := ⟨(c.val + 1) % 32, Nat.mod_lt _ (by decide)⟩
set_option backward.proofsInPublic true in
/-- The previous device on the ring. -/
def prv (c : Dev nD) : Dev nD := ⟨(c.val + 31) % 32, Nat.mod_lt _ (by decide)⟩

theorem nxt_prv (c : Dev nD) : nxt (prv c) = c := by revert c; decide
theorem prv_nxt (c : Dev nD) : prv (nxt c) = c := by revert c; decide
theorem nxt_ne (c : Dev nD) : nxt c ≠ c := by revert c; decide
theorem prv_ne_nxt (c : Dev nD) : prv c ≠ nxt c := by revert c; decide

/-- The ring's successor as an equivalence of devices. -/
def ring : Dev nD ≃ Dev nD := ⟨nxt, prv, prv_nxt, nxt_prv⟩

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = prv c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = prv c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = prv c := by revert c; decide +kernel

theorem trips1 : k0_t1_loop.trips = 16 := by decide +kernel
theorem trips2 : k0_t2_loop.trips = 31 := by decide +kernel
theorem trips3 : k0_t3_loop.trips = 31 := by decide +kernel
theorem trips4 : k0_t4_loop.trips = 16 := by decide +kernel
theorem trips5 : k0_t5_loop.trips = 16 := by decide +kernel

/-- The first row of the chunk that device `c` sends on hop `g`: chunk `c - g` around the ring. -/
def sendRow (g : ℕ) (c : Dev nD) : ℕ := 128 * ((c.val + 64 - g) % 32)
/-- The first row of the chunk that device `c` receives on hop `g`: chunk `c - g - 1` around the ring. -/
def recvRow (g : ℕ) (c : Dev nD) : ℕ := 128 * ((c.val + 63 - g) % 32)

theorem sendRow_le (g : ℕ) (c : Dev nD) : sendRow g c + 128 ≤ 4096 := by unfold sendRow; omega
theorem recvRow_le (g : ℕ) (c : Dev nD) : recvRow g c + 128 ≤ 4096 := by unfold recvRow; omega

theorem off4_eq (c : Dev nD) (t : Fin k0_t2_loop.trips) : k0_off4 c t = ![sendRow t.val c, 0] := by revert c t; decide +kernel
theorem off7_eq (c : Dev nD) (t : Fin k0_t2_loop.trips) : k0_off7 c t = ![recvRow t.val c, 0] := by revert c t; decide +kernel
theorem off9_eq (c : Dev nD) (t : Fin k0_t3_loop.trips) : k0_off9 c t = ![sendRow (31 + t.val) c, 0] := by revert c t; decide +kernel
theorem off12_eq (c : Dev nD) (t : Fin k0_t3_loop.trips) : k0_off12 c t = ![recvRow (31 + t.val) c, 0] := by revert c t; decide +kernel

theorem off8_eq (t : Fin k0_t3_loop.trips) : k0_off8 t = ![(31 + t.val) % 2] := by rw [k0_off8_eq, Nat.add_comm]
theorem off10_eq (t : Fin k0_t3_loop.trips) : k0_off10 t = ![(31 + t.val) % 2, 0, 0] := by rw [k0_off10_eq, Nat.add_comm]
theorem off11_eq (t : Fin k0_t3_loop.trips) : k0_off11 t = ![(31 + t.val) % 2, 0, 0] := by rw [k0_off11_eq, Nat.add_comm]

end Cert.Proof
-- ==== Proof.Rows.lean ====
/-
  Reading and writing through views, index by index: consecutive rows of a matrix held in a whole
  buffer, and one slot of a two-slot buffer seen at rank three or, squeezed, at rank two.
-/
module

public import proofs.«01_k».proof.Proof.Gen.KernelIdeal

@[expose] public section

noncomputable section

namespace Cert.Proof

open Idealize.ShloMosaic

/-! ## Rows of a matrix -/

section Rows
variable {R C B : ℕ} {α : Type}

/-- Row `o + i 0`, column `i 1` of an `R × C` matrix: the place of index `i` of the `B` rows from row `o` on. -/
def rowIdx (o : ℕ) (h : o + B ≤ R) (i : (⟨2, ![B, C]⟩ : Shape).Idx) : (⟨2, ![R, C]⟩ : Shape).Idx :=
  Shape.pair (d := ![R, C]) ⟨o + (i 0).val, Nat.lt_of_lt_of_le (Nat.add_lt_add_left (i 0).isLt o) h⟩ (i 1)

/-- The `B` rows of a matrix from row `o` on. -/
def takeRows (o : ℕ) (h : o + B ≤ R) (f : (⟨2, ![R, C]⟩ : Shape).Idx → α) : (⟨2, ![B, C]⟩ : Shape).Idx → α :=
  fun i => f (rowIdx o h i)

/-- A matrix with `B` of its rows, from row `o` on, replaced. -/
def putRows (o : ℕ) (f : (⟨2, ![R, C]⟩ : Shape).Idx → α) (w : (⟨2, ![B, C]⟩ : Shape).Idx → α) :
    (⟨2, ![R, C]⟩ : Shape).Idx → α :=
  fun j => if h : o ≤ (j 0).val ∧ (j 0).val < o + B then
    w (Shape.pair (d := ![B, C]) ⟨(j 0).val - o, show (j 0).val - o < B by omega⟩ (j 1)) else f j

theorem rowIdx_zero (o : ℕ) (h : o + B ≤ R) (i : (⟨2, ![B, C]⟩ : Shape).Idx) : (rowIdx o h i 0).val = o + (i 0).val := rfl
theorem rowIdx_one (o : ℕ) (h : o + B ≤ R) (i : (⟨2, ![B, C]⟩ : Shape).Idx) : rowIdx o h i 1 = i 1 := rfl

/-- An index whose row lies among the `B` rows is the place of its own row counted from row `o`. -/
theorem rowIdx_sub (o : ℕ) (h : o + B ≤ R) (j : (⟨2, ![R, C]⟩ : Shape).Idx) (hj : o ≤ (j 0).val ∧ (j 0).val < o + B) :
    rowIdx o h (Shape.pair (d := ![B, C]) ⟨(j 0).val - o, show (j 0).val - o < B by omega⟩ (j 1)) = j := by
  refine (congrArg₂ (Shape.pair (d := ![R, C])) (Fin.ext ?_) rfl).trans (Shape.pair_eta j)
  show o + ((j 0).val - o) = (j 0).val
  omega

/-- The embedding of a block of rows is `rowIdx`. -/
theorem emb_rows (o : ℕ) (h : o + B ≤ R) {off : Fin 2 → ℕ} (ho : off = ![o, 0])
    (inb : ∀ a, off a + (![B, C] : Fin 2 → ℕ) a ≤ (⟨2, ![R, C]⟩ : Shape).size a) (i : (⟨2, ![B, C]⟩ : Shape).Idx) :
    (Rect.unit (s := ⟨2, ![R, C]⟩) off ![B, C] inb).emb i = rowIdx o h i := by
  subst ho
  funext a
  apply Fin.ext
  rcases a with ⟨_ | _ | n, ha⟩
  · show o + 1 * (i 0).val = o + (i 0).val; omega
  · show 0 + 1 * (i 1).val = (i 1).val; omega
  · exact absurd ha (by simp)

variable {sig : RefSig} {κ : Kind} {sp : Space} {e : EltTy} {Val : EltTy → Type}

/-- A load of `B` rows reads them off what the view reads. -/
theorem readAt_rows (v : View sig κ sp ⟨2, ![R, C]⟩ e) (f : v.ty.Contents Val) (o : ℕ) (h : o + B ≤ R) {off : Fin 2 → ℕ}
    (ho : off = ![o, 0]) (inb : ∀ a, off a + (![B, C] : Fin 2 → ℕ) a ≤ (⟨2, ![R, C]⟩ : Shape).size a) :
    v.readAt Val (Rect.unit (s := ⟨2, ![R, C]⟩) off ![B, C] inb).toLoadRect f = takeRows o h (v.read Val f) := by
  rw [View.readAt_rect]
  funext i
  exact congrArg (v.read Val f) (emb_rows o h ho inb i)

/-- A store of `B` rows replaces them in what the view reads. -/
theorem read_write_rows (v : View sig κ sp ⟨2, ![R, C]⟩ e) (f : v.ty.Contents Val) (o : ℕ) (h : o + B ≤ R) {off : Fin 2 → ℕ}
    (ho : off = ![o, 0]) (inb : ∀ a, off a + (![B, C] : Fin 2 → ℕ) a ≤ (⟨2, ![R, C]⟩ : Shape).size a)
    (w : (⟨2, ![B, C]⟩ : Shape).Idx → Val e) :
    v.read Val ((v.slice (Rect.unit (s := ⟨2, ![R, C]⟩) off ![B, C] inb)).write Val f w Finset.univ) = putRows o (v.read Val f) w := by
  funext j
  unfold putRows
  by_cases hj : o ≤ (j 0).val ∧ (j 0).val < o + B
  · rw [dif_pos hj]
    have hx := emb_rows o h ho inb (Shape.pair (d := ![B, C]) ⟨(j 0).val - o, show (j 0).val - o < B by omega⟩ (j 1))
    rw [rowIdx_sub o h j hj] at hx
    rw [← View.read_slice_write_emb (v := v) (Rect.unit (s := ⟨2, ![R, C]⟩) off ![B, C] inb) f w (Finset.mem_univ _), hx]
  · rw [dif_neg hj]
    refine View.read_slice_write_of_not_mem _ _ _ _ fun hm => hj ?_
    obtain ⟨x, -, hx⟩ := Finset.mem_map.mp hm
    rw [emb_rows o h ho inb x] at hx
    subst hx
    rw [rowIdx_zero]
    have : (x 0).val < B := (x 0).isLt
    omega

/-- Replacing rows and reading them back. -/
theorem takeRows_putRows (o : ℕ) (h : o + B ≤ R) (f : (⟨2, ![R, C]⟩ : Shape).Idx → α) (w : (⟨2, ![B, C]⟩ : Shape).Idx → α) :
    takeRows o h (putRows o f w) = w := by
  funext i
  unfold takeRows putRows
  have : (i 0).val < B := (i 0).isLt
  rw [dif_pos ⟨by rw [rowIdx_zero]; omega, by rw [rowIdx_zero]; omega⟩]
  refine congrArg w ?_
  refine (congrArg₂ (Shape.pair (d := ![B, C])) (Fin.ext ?_) rfl).trans (Shape.pair_eta i)
  show o + (i 0).val - o = (i 0).val
  omega

end Rows

/-! ## One slot of a buffer, squeezed -/

section Slot
variable {sig : RefSig} {κ : Kind} {sp sp' : Space} {s s' : Shape} {e : EltTy} {Val : EltTy → Type}

/-- A view read at another shape with as many elements determines what it reads. -/
theorem read_of_reshape (v : View sig κ sp s e) (h : s'.numel = s.numel) (f g : v.ty.Contents Val)
    (hfg : (v.reshape s' h).read Val f = (v.reshape s' h).read Val g) : v.read Val f = v.read Val g := by
  funext x
  have := congrFun hfg ((Shape.reshapeEquiv h).symm x)
  simp only [View.read_apply, View.emb_reshape] at this
  simpa [View.read_apply] using this

/-- What a slot holds, read at its own shape, after a transfer into it — both ends seen at another shape — of a slot just
    stored: the value stored. -/
theorem read_transfer (v : View sig κ sp s e) (w : View sig κ sp' s e) (h : s'.numel = s.numel) (fd : v.ty.Contents Val)
    (fs : w.ty.Contents Val) (x : s.Idx → Val e) :
    v.read Val ((v.reshape s' h).write Val fd ((w.reshape s' h).read Val (w.write Val fs x Finset.univ)) Finset.univ) = x := by
  have h1 : (v.reshape s' h).read Val ((v.reshape s' h).write Val fd ((w.reshape s' h).read Val (w.write Val fs x Finset.univ)) Finset.univ)
      = (v.reshape s' h).read Val (v.write Val fd x Finset.univ) := by
    rw [View.read_write_univ]
    funext y
    have hw := congrFun (View.read_write_univ (v := w) fs x) (Shape.reshapeEquiv h y)
    have hv := congrFun (View.read_write_univ (v := v) fd x) (Shape.reshapeEquiv h y)
    exact hw.trans hv.symm
  exact (read_of_reshape v h _ _ h1).trans (View.read_write_univ fd x)

end Slot

end Cert.Proof

end
-- ==== Proof.State.lean ====
/-
  What the output buffer holds as the kernel runs: the local product first; hop by hop the chunk received, added in the first
  phase and copied in the second; the largest element; the quantised result. Stated index by index, over any float values.
-/
module

public import proofs.«01_k».proof.Proof.Mesh
public import proofs.«01_k».proof.Proof.Rows
public import proofs.«01_k».proof.Proof.Gen.KernelIdeal.Skeleton

@[expose] public section

noncomputable section

namespace Cert.Proof

open Idealize.ShloMosaic
open Cert.KernelIdeal Cert.KernelIdeal.Gen

/-! ## A matrix worked on block by block -/

section Blocks
variable {C C' : ℕ} {α β : Type}

/-- The matrix of 4096 rows whose every block of 256 rows is `φ` of the same block of `f`. -/
def byBlocks (φ : ((⟨2, ![256, C]⟩ : Shape).Idx → α) → (⟨2, ![256, C']⟩ : Shape).Idx → β) (f : (⟨2, ![4096, C]⟩ : Shape).Idx → α) :
    (⟨2, ![4096, C']⟩ : Shape).Idx → β :=
  fun j => φ (takeRows (256 * ((j 0).val / 256)) (by have : (j 0).val < 4096 := (j 0).isLt; omega) f)
    (Shape.pair (d := ![256, C']) ⟨(j 0).val % 256, Nat.mod_lt _ (by decide)⟩ (j 1))

/-- The first `k` blocks of `g`, the remaining rows of `f`. -/
def upTo (k : ℕ) (f g : (⟨2, ![4096, C]⟩ : Shape).Idx → α) : (⟨2, ![4096, C]⟩ : Shape).Idx → α :=
  fun j => if (j 0).val < 256 * k then g j else f j

theorem upTo_zero (f g : (⟨2, ![4096, C]⟩ : Shape).Idx → α) : upTo 0 f g = f := funext fun j => if_neg (by omega)
theorem upTo_all (f g : (⟨2, ![4096, C]⟩ : Shape).Idx → α) : upTo 16 f g = g :=
  funext fun j => if_pos (by have : (j 0).val < 4096 := (j 0).isLt; omega)

theorem blk_le {k : ℕ} (h : k < 16) : 256 * k + 256 ≤ 4096 := by omega

/-- The blocks not yet reached are the old ones. -/
theorem takeRows_upTo {k : ℕ} (h : k < 16) (f g : (⟨2, ![4096, C]⟩ : Shape).Idx → α) :
    takeRows (B := 256) (256 * k) (blk_le h) (upTo k f g) = takeRows (256 * k) (blk_le h) f :=
  funext fun i => if_neg (by rw [rowIdx_zero]; omega)

/-- One more block replaced by `φ` of the same block of `h`. -/
theorem putRows_upTo {k : ℕ} (hk : k < 16) (φ : ((⟨2, ![256, C]⟩ : Shape).Idx → α) → (⟨2, ![256, C']⟩ : Shape).Idx → β)
    (f : (⟨2, ![4096, C']⟩ : Shape).Idx → β) (h : (⟨2, ![4096, C]⟩ : Shape).Idx → α) :
    putRows (256 * k) (upTo k f (byBlocks φ h)) (φ (takeRows (256 * k) (blk_le hk) h)) = upTo (k + 1) f (byBlocks φ h) := by
  funext j
  unfold putRows upTo
  by_cases hj : 256 * k ≤ (j 0).val ∧ (j 0).val < 256 * k + 256
  · rw [dif_pos hj, if_pos (by omega)]
    unfold byBlocks
    obtain rfl : k = (j 0).val / 256 := by omega
    refine congrArg (φ _) (congrArg₂ (Shape.pair (d := ![256, C'])) (Fin.ext ?_) rfl)
    show (j 0).val - 256 * ((j 0).val / 256) = (j 0).val % 256
    omega
  · rw [dif_neg hj]
    by_cases h1 : (j 0).val < 256 * k
    · rw [if_pos h1, if_pos (by omega)]
    · rw [if_neg h1, if_neg (by omega)]

end Blocks

/-! ## The kernel's contents -/

section Contents
variable {F : FTy → Type} [FloatOps F]

/-- The product of a device's blocks of the two arguments. -/
def gemm (x : Vec F S4096x128 .bf16) (w : Vec F S128x2048 .bf16) : Vec F S4096x2048 .f32 := byBlocks (C := 128) (C' := 2048) (k0_pay6 w) x

-- the devices' blocks of the two arguments
variable (X : Dev nD → Vec F S4096x128 .bf16) (Wt : Dev nD → Vec F S128x2048 .bf16)

/-- What a device with output `f` sends on hop `g`. -/
def chunkOf (g : ℕ) (c : Dev nD) (f : Vec F S4096x2048 .f32) : Vec F S1x128x2048 .bf16 := k0_pay2 (takeRows (sendRow g c) (sendRow_le g c) f)

/-- A device's output after hop `g`, from its output before and what it receives: the chunk added in the first phase,
    copied in the second. -/
def hopOut (g : ℕ) (c : Dev nD) (f : Vec F S4096x2048 .f32) (v : Vec F S1x128x2048 .bf16) : Vec F S4096x2048 .f32 :=
  putRows (B := 128) (C := 2048) (recvRow g c) f (if g < 31 then k0_pay3 (takeRows (recvRow g c) (recvRow_le g c) f) v else k0_pay5 v)

/-- Device `c`'s output before hop `g`. -/
def st : ℕ → Dev nD → Vec F S4096x2048 .f32
  | 0, c => gemm (X c) (Wt c)
  | g + 1, c => hopOut g c (st g c) (chunkOf g (prv c) (st g (prv c)))

/-- What device `c` sends on hop `g`. -/
def snt (g : ℕ) (c : Dev nD) : Vec F S1x128x2048 .bf16 := chunkOf g c (st X Wt g c)

theorem st_zero (c : Dev nD) : st X Wt 0 c = gemm (X c) (Wt c) := rfl
theorem st_succ (g : ℕ) (c : Dev nD) : st X Wt (g + 1) c = hopOut g c (st X Wt g c) (snt X Wt g (prv c)) := rfl

/-- The largest of zero and the elements of the first `k` blocks. -/
def amaxTo (f : Vec F S4096x2048 .f32) : ℕ → F .f32
  | 0 => Scalar.ofBits .f32 0x00000000#32
  | k + 1 => k0_pay7 (amaxTo f k) (takeRows (R := 4096) (C := 2048) (B := 256) (256 * (k % 16)) (by omega) f)

/-- The quantisation step. -/
def scaleOf (f : Vec F S4096x2048 .f32) : F .f32 := k0_pay8 (amaxTo f 16)

/-- The matrix clipped below at zero and rounded to whole multiples of the step. -/
def quant (f : Vec F S4096x2048 .f32) : Vec F S4096x2048 .f32 := byBlocks (C := 2048) (C' := 2048) (k0_pay1 (scaleOf f)) f

/-- The kernel's result on device `c`. -/
def result (c : Dev nD) : Vec F S4096x2048 .f32 := quant (st X Wt 62 c)

end Contents

end Cert.Proof

end
-- ==== Proof.RingSum.lean ====
/-
  The ring's arithmetic at one element: every device starts with a term of its own; on each hop one device, the hop deciding
  which, receives what its predecessor holds, adding it in the first thirty-one hops and taking it over in the rest. After
  sixty-two hops every device holds the sum of all the terms.
-/
module

public import Mathlib.Algebra.BigOperators.Fin

@[expose] public section

namespace Cert.Proof

open scoped BigOperators

variable {M : Type*} [AddCommMonoid M]

set_option backward.proofsInPublic true in
/-- The device before `c` on a ring of thirty-two. -/
abbrev before (c : Fin 32) : Fin 32 := ⟨(c.val + 31) % 32, Nat.mod_lt _ (by decide)⟩

set_option backward.proofsInPublic true in
/-- The device `k` places after `q` on the ring. -/
abbrev after (q : Fin 32) (k : ℕ) : Fin 32 := ⟨(q.val + k) % 32, Nat.mod_lt _ (by decide)⟩

/-- How many places after `q` device `c` stands. -/
abbrev place (q c : Fin 32) : ℕ := (c.val + 32 - q.val) % 32

/-- The terms of the devices from `q` to `k` places after it, added. -/
def partialSum (p : Fin 32 → M) (q : Fin 32) (k : ℕ) : M := ∑ i ∈ Finset.range (k + 1), p (after q i)

/-- All the devices counted from `q` on are all the devices. -/
theorem partialSum_all (p : Fin 32 → M) (q : Fin 32) : partialSum p q 31 = ∑ d, p d := by
  have hq := q.isLt
  unfold partialSum
  rw [Finset.sum_range]
  refine Fintype.sum_equiv ⟨fun i => after q i.val, fun c => ⟨place q c, Nat.mod_lt _ (by decide)⟩, fun i => Fin.ext ?_,
    fun c => Fin.ext ?_⟩ _ _ fun i => rfl
  · have := i.isLt
    show ((q.val + i.val) % 32 + 32 - q.val) % 32 = i.val
    omega
  · have := c.isLt
    show (q.val + (c.val + 32 - q.val) % 32) % 32 = c.val
    omega

/-- The partial sum up to `c` is the one up to its predecessor and the term of `c`. -/
theorem partialSum_step (p : Fin 32 → M) (q c : Fin 32) (h : place q c ≠ 0) :
    p c + partialSum p q (place q (before c)) = partialSum p q (place q c) := by
  have hb : place q c = place q (before c) + 1 := by
    have := c.isLt; have := q.isLt
    show (c.val + 32 - q.val) % 32 = ((c.val + 31) % 32 + 32 - q.val) % 32 + 1
    change (c.val + 32 - q.val) % 32 ≠ 0 at h
    omega
  have hc : after q (place q (before c) + 1) = c := Fin.ext (by
    rw [← hb]
    have := c.isLt; have := q.isLt
    show (q.val + (c.val + 32 - q.val) % 32) % 32 = c.val
    omega)
  rw [hb]
  unfold partialSum
  rw [Finset.sum_range_succ _ (place q (before c) + 1), hc, add_comm]

section run

variable (p : Fin 32 → M) (q : Fin 32) (a : ℕ → Fin 32 → M)

/-- What device `c` holds before hop `g`: first the partial sums grow one device at a time, then the whole sum travels. -/
def held (g : ℕ) (c : Fin 32) : M :=
  if g ≤ 31 then (if place q c ≤ g then partialSum p q (place q c) else p c)
  else if place q c = 31 ∨ place q c + 31 < g then ∑ d, p d else partialSum p q (place q c)

/-- A device whose place is not the hop's receives nothing, and what it should hold is what it held. -/
theorem held_other (g : ℕ) (hg : g < 62) (c : Fin 32) (h : q.val ≠ (c.val + 63 - g) % 32) : held p q (g + 1) c = held p q g c := by
  have hc := c.isLt; have hq := q.isLt
  have hp : place q c ≤ 31 := by show (c.val + 32 - q.val) % 32 ≤ 31; omega
  have hne : place q c ≠ g + 1 ∧ place q c + 31 ≠ g := by
    show (c.val + 32 - q.val) % 32 ≠ g + 1 ∧ (c.val + 32 - q.val) % 32 + 31 ≠ g; omega
  unfold held
  generalize place q c = i at hp hne
  by_cases h1 : g + 1 ≤ 31
  · rw [if_pos h1, if_pos (show g ≤ 31 by omega)]
    by_cases h2 : i ≤ g
    · rw [if_pos h2, if_pos (by omega)]
    · rw [if_neg h2, if_neg (by omega)]
  · rw [if_neg h1]
    by_cases h3 : g ≤ 31
    · obtain rfl : g = 31 := by omega
      rw [if_pos h3, if_pos hp]
      by_cases h4 : i = 31
      · rw [if_pos (.inl h4), h4, partialSum_all]
      · rw [if_neg (by omega)]
    · rw [if_neg h3]
      by_cases h4 : i = 31 ∨ i + 31 < g
      · rw [if_pos h4, if_pos (by omega)]
      · rw [if_neg h4, if_neg (by omega)]

/-- The device that a hop of the first phase reaches adds its predecessor's partial sum to its own term. -/
theorem held_add (g : ℕ) (hg : g < 31) (c : Fin 32) (h : q.val = (c.val + 63 - g) % 32) :
    held p q (g + 1) c = held p q g c + held p q g (before c) := by
  have hc := c.isLt; have hq := q.isLt
  have hi : place q c = g + 1 := by show (c.val + 32 - q.val) % 32 = g + 1; omega
  have hb : place q (before c) = g := by show ((c.val + 31) % 32 + 32 - q.val) % 32 = g; omega
  have hs := partialSum_step p q c (by omega)
  unfold held
  rw [if_pos (show g + 1 ≤ 31 by omega), if_pos hi.le, if_pos (show g ≤ 31 by omega), if_pos (show g ≤ 31 by omega),
    if_neg (show ¬ place q c ≤ g by omega), if_pos hb.le, hs]

/-- The device that a hop of the second phase reaches takes the whole sum over from its predecessor. -/
theorem held_copy (g : ℕ) (h31 : 31 ≤ g) (hg : g < 62) (c : Fin 32) (h : q.val = (c.val + 63 - g) % 32) :
    held p q (g + 1) c = held p q g (before c) := by
  have hc := c.isLt; have hq := q.isLt
  have hi : place q c + 31 = g := by show (c.val + 32 - q.val) % 32 + 31 = g; omega
  have hb : place q (before c) = 31 ∨ place q (before c) + 32 = g := by
    show ((c.val + 31) % 32 + 32 - q.val) % 32 = 31 ∨ ((c.val + 31) % 32 + 32 - q.val) % 32 + 32 = g; omega
  have hl : held p q (g + 1) c = ∑ d, p d := by
    unfold held; rw [if_neg (by omega), if_pos (.inr (by omega))]
  rw [hl]
  unfold held
  by_cases h3 : g ≤ 31
  · have h5 : place q (before c) = 31 := by omega
    rw [if_pos h3, h5, if_pos (by omega), partialSum_all]
  · rw [if_neg h3, if_pos (by omega)]

/-- A family that starts with the terms and follows the hops holds what it should before every hop. -/
theorem held_run (h0 : ∀ c, a 0 c = p c)
    (hs : ∀ g < 62, ∀ c, a (g + 1) c = if q.val = (c.val + 63 - g) % 32 then
      (if g < 31 then a g c + a g (before c) else a g (before c)) else a g c) :
    ∀ g ≤ 62, ∀ c, a g c = held p q g c := by
  intro g
  induction g with
  | zero =>
    intro _ c
    rw [h0]
    unfold held
    rw [if_pos (by omega)]
    by_cases h : place q c ≤ 0
    · have hc : after q 0 = c := Fin.ext (by
        have := c.isLt; have := q.isLt
        change (c.val + 32 - q.val) % 32 ≤ 0 at h
        show (q.val + 0) % 32 = c.val
        omega)
      rw [if_pos h, Nat.le_zero.mp h]
      unfold partialSum
      rw [Finset.sum_range_one, hc]
    · rw [if_neg h]
  | succ g ih =>
    intro hg c
    have ih := ih (by omega)
    rw [hs g (by omega) c]
    by_cases h : q.val = (c.val + 63 - g) % 32
    · rw [if_pos h]
      by_cases h1 : g < 31
      · rw [if_pos h1, ih, ih, held_add p q g h1 c h]
      · rw [if_neg h1, ih, held_copy p q g (by omega) (by omega) c h]
    · rw [if_neg h, ih, held_other p q g (by omega) c h]

/-- After the last hop every device holds the sum of all the terms. -/
theorem ring_sum (h0 : ∀ c, a 0 c = p c)
    (hs : ∀ g < 62, ∀ c, a (g + 1) c = if q.val = (c.val + 63 - g) % 32 then
      (if g < 31 then a g c + a g (before c) else a g (before c)) else a g c) (c : Fin 32) :
    a 62 c = ∑ d, p d := by
  have hc := c.isLt; have hq := q.isLt
  rw [held_run p q a h0 hs 62 le_rfl c]
  unfold held
  rw [if_neg (by omega), if_pos]
  show (c.val + 32 - q.val) % 32 = 31 ∨ (c.val + 32 - q.val) % 32 + 31 < 62
  omega

end run

end Cert.Proof
-- ==== Proof.Values.lean ====
/-
  The kernel's contents over the extended reals, element by element: a device's local product is a sum of products; after the
  last hop every device holds the sum of the local products; the largest element; the quantised result.
-/
module

public import proofs.«01_k».proof.Proof.State
public import proofs.«01_k».proof.Proof.RingSum
public import Idealize.ShloMosaic.PureOps.Ideal.Laws
public import Idealize.ShloMosaic.Lib.Pipeline.Value
public import Idealize.ShloMosaic.Lib.MatmulPlain

@[expose] public section

noncomputable section

namespace Cert.Proof

open Idealize.ShloMosaic Idealize.ShloMosaic.ValueIdx
open Cert.KernelIdeal Cert.KernelIdeal.Gen
open scoped BigOperators

/-! ## What travels -/

/-- A chunk that is sent and copied is the chunk. -/
theorem copy_chunk (b : Vec Ideal S128x2048 .f32) : k0_pay5 (k0_pay2 b) = b := by
  unfold k0_pay5 k0_pay2
  dsimp only
  rw [shapeCast_shapeCast, shapeCast_self]
  rfl

/-- A chunk that is sent and added is added. -/
theorem add_chunk (a b : Vec Ideal S128x2048 .f32) (i : S128x2048.Idx) : k0_pay3 a (k0_pay2 b) i = a i + b i := by
  unfold k0_pay3 k0_pay2
  dsimp only
  rw [shapeCast_shapeCast, shapeCast_self, shapeCast_self]
  rfl

section Hops

variable (X : Dev nD → Vec Ideal S4096x128 .bf16) (Wt : Dev nD → Vec Ideal S128x2048 .bf16)

/-- The predecessor sends the rows that a device receives. -/
theorem sendRow_prv (g : ℕ) (hg : g < 62) (c : Dev nD) : sendRow g (prv c) = recvRow g c := by
  have : c.val < 32 := c.isLt
  show 128 * (((c.val + 31) % 32 + 64 - g) % 32) = 128 * ((c.val + 63 - g) % 32)
  omega

/-- Rows taken at one place are rows taken at an equal place. -/
theorem takeRows_congr {R C B : ℕ} {α : Type} {o o' : ℕ} (e : o = o') (h : o + B ≤ R) (h' : o' + B ≤ R)
    (f : (⟨2, ![R, C]⟩ : Shape).Idx → α) : takeRows (B := B) o h f = takeRows o' h' f := by subst e; rfl

/-- One hop at one element: the elements of the chunk received are added to, or replaced by, the predecessor's. -/
theorem st_step (g : ℕ) (hg : g < 62) (c : Dev nD) (j : S4096x2048.Idx) :
    st X Wt (g + 1) c j = if (j 0).val / 128 = (c.val + 63 - g) % 32 then
      (if g < 31 then st X Wt g c j + st X Wt g (prv c) j else st X Wt g (prv c) j) else st X Wt g c j := by
  show hopOut g c (st X Wt g c) (chunkOf g (prv c) (st X Wt g (prv c))) j = _
  unfold hopOut chunkOf putRows
  rw [takeRows_congr (sendRow_prv g hg c) _ (recvRow_le g c)]
  have hrow : (recvRow g c ≤ (j 0).val ∧ (j 0).val < recvRow g c + 128) ↔ (j 0).val / 128 = (c.val + 63 - g) % 32 := by
    unfold recvRow; omega
  by_cases h : recvRow g c ≤ (j 0).val ∧ (j 0).val < recvRow g c + 128
  · rw [dif_pos h, if_pos (hrow.mp h)]
    have hj := rowIdx_sub (C := 2048) (recvRow g c) (recvRow_le g c) j h
    by_cases h1 : g < 31
    · rw [if_pos h1, if_pos h1, add_chunk]
      unfold takeRows
      rw [hj]
    · rw [if_neg h1, if_neg h1, copy_chunk]
      unfold takeRows
      rw [hj]
  · rw [dif_neg h, if_neg (fun h' => h (hrow.mpr h'))]

/-- After the last hop every device holds, element by element, the sum of the devices' local products. -/
theorem st_final (c : Dev nD) (j : S4096x2048.Idx) : st X Wt 62 c j = ∑ d : Fin 32, gemm (X d) (Wt d) j := by
  have hj : (j 0).val < 4096 := (j 0).isLt
  exact ring_sum (fun d => gemm (X d) (Wt d) j) ⟨(j 0).val / 128, by omega⟩ (fun g d => st X Wt g d j) (fun _ => rfl)
    (fun g hg d => st_step X Wt g hg d j) c

end Hops

/-! ## The local product -/

/-- A device's local product, element by element. -/
theorem gemm_apply (x : Vec Ideal S4096x128 .bf16) (w : Vec Ideal S128x2048 .bf16) (r : Fin 4096) (l : Fin 2048) :
    gemm x w (ix2 r l) = ∑ k : Fin 128, x (ix2 r k) * w (ix2 k l) := by
  unfold gemm byBlocks k0_pay6
  dsimp only
  rw [shapeCast_self, shapeCast_self]
  have hi : Shape.pair (d := ![256, 2048]) ⟨r.val % 256, Nat.mod_lt _ (by decide)⟩ l
      = ix2 (⟨r.val % 256, Nat.mod_lt _ (by decide)⟩ : Fin 256) l := by
    funext a; match a with | ⟨0, _⟩ => rfl | ⟨1, _⟩ => rfl
  refine (congrArg _ hi).trans ((Ideal.matmul_plain_apply (M := 256) (K := 128) (N := 2048) none _ _ _ _ _).trans ?_)
  refine (congrArg (· + _) (Ideal.ofBits_zero_f32)).trans ((zero_add _).trans (Finset.sum_congr rfl fun k _ => ?_))
  refine congrArg (· * _) (congrArg x ?_)
  funext a
  match a with
  | ⟨0, _⟩ => exact Fin.ext (show 256 * (r.val / 256) + r.val % 256 = r.val by omega)
  | ⟨1, _⟩ => rfl

end Cert.Proof

end
-- ==== Proof.Epilogue.lean ====
/-
  The kernel's epilogue over the extended reals: the largest element, found block by block, as a bound; and the quantised
  result element by element.
-/
module

public import proofs.«01_k».proof.Proof.Values
public import Idealize.ShloMosaic.Lib.ValueIdx

@[expose] public section

noncomputable section

namespace Cert.Proof

open Idealize.ShloMosaic Idealize.ShloMosaic.ValueIdx
open Cert.KernelIdeal Cert.KernelIdeal.Gen

/-- The word that the kernel's maxima start from denotes the least extended real. -/
theorem ofBits_least : Ideal.ofBits .f32 0xFF800000#32 = ⊥ := by simp [Ideal.ofBits, Ideal.ieee]

/-- The maximum of a block is at most `b` when every element is. -/
theorem reduced_le (v : FVec Ideal S1x256x2048 .f32) (hφ : FKind.Formats .f32)
    (hacc : 0xFF800000#32 = FKind.maximumf.neutral .f32 hφ) (i : S1.Idx) (b : EReal) :
    (multiReduction .maximumf [1, 2] S1 v 0xFF800000#32 reduces_S1x256x2048_S1 hφ hacc i : EReal) ≤ b
      ↔ ∀ x, (v x : EReal) ≤ b := by
  rw [multiReduction_maximumf_eq_fold, Finset.filter_true_of_mem (fun x _ => funext fun a => Fin.ext (by
    fin_cases a; exact (Nat.lt_one_iff.mp (Fin.isLt _)).trans (Nat.lt_one_iff.mp (Fin.isLt _)).symm))]
  refine (Finset.fold_max_le (β := EReal) b).trans ?_
  rw [show (FloatOps.ofBits FTy.f32 0xFF800000#32 : Ideal .f32) = (⊥ : EReal) from ofBits_least]
  exact ⟨fun h x => h.2 x (Finset.mem_univ _), fun h => ⟨bot_le, fun x _ => h x⟩⟩

/-- One more block taken into the maximum: it is at most `b` when the maximum before and every element of the block are. -/
theorem blockMax_le (acc : Ideal .f32) (v : Vec Ideal S256x2048 .f32) (b : EReal) :
    (k0_pay7 acc v : EReal) ≤ b ↔ (acc : EReal) ≤ b ∧ ∀ i, (v i : EReal) ≤ b := by
  unfold k0_pay7
  dsimp only
  rw [shapeCast_self]
  refine (max_le_iff (a := (acc : EReal))).trans (and_congr_right fun _ => ?_)
  unfold extractAt shapeCast
  refine (reduced_le _ _ _ _ b).trans ⟨fun h i => ?_, fun h x => h _⟩
  obtain ⟨x, rfl⟩ := (Shape.reshapeEquiv (shapeCasts_S256x2048_S1x256x2048)).surjective i
  exact h x

/-- The maximum over the first `k` blocks is at most `b` when zero and every element of theirs are. -/
theorem amaxTo_le (f : Vec Ideal S4096x2048 .f32) (b : EReal) : ∀ k ≤ 16,
    ((amaxTo f k : EReal) ≤ b ↔ 0 ≤ b ∧ ∀ j : S4096x2048.Idx, (j 0).val < 256 * k → (f j : EReal) ≤ b) := by
  intro k
  induction k with
  | zero =>
    intro _
    rw [show (amaxTo f 0 : EReal) = 0 from Ideal.ofBits_zero_f32]
    exact ⟨fun h => ⟨h, fun j hj => absurd hj (by omega)⟩, fun h => h.1⟩
  | succ k ih =>
    intro hk
    refine (blockMax_le _ _ b).trans ?_
    rw [ih (by omega), and_assoc]
    refine and_congr_right fun _ => ⟨fun h j hj => ?_, fun h => ⟨fun j hj => h j (by omega), fun i => h _ ?_⟩⟩
    · by_cases h1 : (j 0).val < 256 * k
      · exact h.1 j h1
      · have h2 := h.2 (Shape.pair (d := ![256, 2048]) ⟨(j 0).val - 256 * (k % 16), show _ < 256 by omega⟩ (j 1))
        unfold takeRows at h2
        rwa [rowIdx_sub (C := 2048) (256 * (k % 16)) (by omega) j (by omega)] at h2
    · rw [rowIdx_zero]
      have : (i 0).val < 256 := (i 0).isLt
      omega

/-- One element clipped below at zero, divided by the step, rounded, cut to ±127, times the step. -/
def quantOne (s y : EReal) : EReal :=
  min (Ideal.ofBits .f32 0x42FE0000#32) (max (Ideal.ofBits .f32 0xC2FE0000#32)
    (FloatOps.roundeven (F := Ideal) (φ := .f32) (Ideal.div y s))) * s

/-- The quantised result element by element. -/
theorem quant_apply (f : Vec Ideal S4096x2048 .f32) (j : S4096x2048.Idx) : quant f j = quantOne (scaleOf f) (max (f j) 0) := by
  unfold quant byBlocks k0_pay1
  dsimp only
  rw [shapeCast_self]
  have hj : rowIdx (R := 4096) (C := 2048) (B := 256) (256 * ((j 0).val / 256)) (by have : (j 0).val < 4096 := (j 0).isLt; omega)
      (Shape.pair (d := ![256, 2048]) ⟨(j 0).val % 256, Nat.mod_lt _ (by decide)⟩ (j 1)) = j :=
    (congrArg₂ (Shape.pair (d := ![4096, 2048])) (Fin.ext (by
      show 256 * ((j 0).val / 256) + (j 0).val % 256 = (j 0).val; omega)) rfl).trans (Shape.pair_eta j)
  show quantOne (scaleOf f) (max (f (rowIdx _ _ _)) (Ideal.ofBits .f32 0x00000000#32)) = _
  rw [hj, Ideal.ofBits_zero_f32]

end Cert.Proof

end
-- ==== Proof.Ref.lean ====
/-
  The run of the reference, on one device over the whole arrays: a straight line of host operations. For any float values,
  from any memory whose counters are zero, it terminates with its result buffer holding `refOut` of the two arguments and
  with both arguments as they were.
-/
module

public import Idealize.ShloMosaic.Lib.StableHlo.Run
public import Idealize.ShloMosaic.Lib.Quiescent
public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- A scalar spread over the whole result. -/
abbrev spread (s : FVec F S_ .f32) : FVec F S4096x2048 .f32 := broadcastInDim S4096x2048 ![] bcast_S_S4096x2048 s

/-- The product of the two arguments with its negative entries put to zero. -/
def refRelu (x : FVec F S4096x4096 .bf16) (w : FVec F S4096x2048 .bf16) : FVec F S4096x2048 .f32 :=
  maximumf (Host.dotGeneral dot_S4096x4096_S4096x2048_S4096x2048_1_0_0_1_n_n none
    (extf .f32 x bitsLt_bf16_f32) (extf .f32 w bitsLt_bf16_f32)) (spread (constant S_ .f32 0x00000000#32))

/-- The step of the quantization: the greatest absolute value, divided by 127. -/
def refScale (y : FVec F S4096x2048 .f32) : FVec F S_ .f32 :=
  Host.divf (Host.reduce FloatOps.maximumf (Host.absf y) (constant S_ .f32 0xFF800000#32) reducesTo_S4096x2048_S_d0_1 h_S_)
    (constant S_ .f32 0x42FE0000#32)

/-- An array quantized with step `s`: each entry over the step, rounded, cut to ±127, times the step. -/
def refQuant (s : FVec F S_ .f32) (y : FVec F S4096x2048 .f32) : FVec F S4096x2048 .f32 :=
  mulf (minimumf (spread (constant S_ .f32 0x42FE0000#32))
    (maximumf (spread (constant S_ .f32 0xC2FE0000#32)) (Host.roundeven (Host.divf y (spread s))))) (spread s)

/-- The reference's result from its two arguments. -/
def refOut (x : FVec F S4096x4096 .bf16) (w : FVec F S4096x2048 .bf16) : FVec F S4096x2048 .f32 :=
  refQuant (refScale (refRelu x w)) (refRelu x w)

/-- The operations of the program, in order. -/
abbrev ops : List (HloOp τ sig (Elt F)) :=
  [ unary main_arg0 main_v0 (extf .f32 · bitsLt_bf16_f32),
    unary main_arg1 main_v1 (extf .f32 · bitsLt_bf16_f32),
    binary main_v0 main_v1 main_v2 (fun l r => Host.dotGeneral dot_S4096x4096_S4096x2048_S4096x2048_1_0_0_1_n_n none l r),
    nullary main_cst (constant S_ .f32 0x00000000#32),
    unary main_cst main_v3 (broadcastInDim S4096x2048 ![] bcast_S_S4096x2048),
    binary main_v2 main_v3 main_v4 maximumf,
    unary main_v4 main_v5 Host.absf,
    nullary main_cst_0 (constant S_ .f32 0xFF800000#32),
    binary main_v5 main_cst_0 main_v6 (fun x v => Host.reduce FloatOps.maximumf x v reducesTo_S4096x2048_S_d0_1 h_S_),
    nullary main_cst_1 (constant S_ .f32 0x42FE0000#32),
    binary main_v6 main_cst_1 main_v7 Host.divf,
    unary main_v7 main_v8 (broadcastInDim S4096x2048 ![] bcast_S_S4096x2048),
    binary main_v4 main_v8 main_v9 Host.divf,
    unary main_v9 main_v10 Host.roundeven,
    nullary main_cst_2 (constant S_ .f32 0xC2FE0000#32),
    nullary main_cst_3 (constant S_ .f32 0x42FE0000#32),
    unary main_cst_2 main_call1_v0 id,
    unary main_call1_v0 main_call1_v1 (broadcastInDim S4096x2048 ![] bcast_S_S4096x2048),
    binary main_call1_v1 main_v10 main_call1_v2 maximumf,
    unary main_cst_3 main_call1_v3 id,
    unary main_call1_v3 main_call1_v4 (broadcastInDim S4096x2048 ![] bcast_S_S4096x2048),
    binary main_call1_v4 main_call1_v2 main_v11 minimumf,
    unary main_v7 main_v12 (broadcastInDim S4096x2048 ![] bcast_S_S4096x2048),
    binary main_v11 main_v12 main_v13 mulf ]

/-- The program is that straight line. -/
theorem main_eq (c : Dev nD) : main (F := F) c = seq ops := rfl

/-- The operations leave `refOut` of the arguments in the result buffer. -/
theorem out_eq (V : Valuation τ sig (Elt F)) : after ops V (main_v13 : DevRef τ sig)
    = refOut (V (main_arg0 : DevRef τ sig)) (V (main_arg1 : DevRef τ sig)) := by
  after_results
  rfl

/-- No operation writes the first argument. -/
theorem arg0_eq (V : Valuation τ sig (Elt F)) : after ops V (main_arg0 : DevRef τ sig) = V (main_arg0 : DevRef τ sig) := by
  after_results

/-- No operation writes the second argument. -/
theorem arg1_eq (V : Valuation τ sig (Elt F)) : after ops V (main_arg1 : DevRef τ sig) = V (main_arg1 : DevRef τ sig) := by
  after_results

/-- No buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., nullary_bufs_sub .., binary_bufs_sub .., nullary_bufs_sub .., binary_bufs_sub .., unary_bufs_sub ..,
    binary_bufs_sub .., unary_bufs_sub .., nullary_bufs_sub .., nullary_bufs_sub .., unary_bufs_sub .., unary_bufs_sub ..,
    binary_bufs_sub .., unary_bufs_sub .., unary_bufs_sub .., binary_bufs_sub .., unary_bufs_sub .., binary_bufs_sub ..⟩

/-- The reference terminates from any memory with zero counters; its result buffer then holds `refOut` of the arguments,
    the arguments hold what they held, and every counter is zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v13)
          = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v13).trans (out_eq _), (h c main_arg0).trans (arg0_eq _),
      (h c main_arg1).trans (arg1_eq _)⟩, sem_eq_zero_of_no_sems (by decide) r.2⟩)
    (run_seq scopedRefs_eq scopedSems_eq defs main (fun _ => ops) main_eq (fun _ => ops_sub) m ρ)

end Cert.Proof.Ref

end
-- ==== Proof.Sched.lean ====
/-
  The protocol of the kernel's semaphores. Sixty-two HOPS move chunks around the ring, hop `g` through slot `g % 2` of the send
  and receive buffers; the two phases of the kernel (hops 0 … 30 and 31 … 61) follow one and the same protocol. Per device: the
  entry barrier's cell; per slot a CREDIT cell, whose round `k` says that the next device's receive slot is free for the
  slot's `k`-th hop; per slot a RECEIVE and a SEND cell, whose round `k` is the completion of the slot's `k`-th transfer.
  This file fixes the cells, the schedule of their rounds, what each device owes when, and the levels that order the waits.
-/
module

public import proofs.«01_k».proof.Proof.Mesh
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Mathlib.Algebra.BigOperators.Intervals
public import Mathlib.Tactic.Abel

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's rounds and, beside them, the ring's -/

abbrev UB := URounds (GSem nD τ sig) Bool
abbrev UU := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Buffers, slots and cells -/

abbrev xM : Memref sig .tc .vmem S4096x128 .bf16 := Memref.whole cc0_stg0_0
abbrev wM : Memref sig .tc .vmem S128x2048 .bf16 := Memref.whole cc0_stg1_0
abbrev oM : Memref sig .tc .vmem S4096x2048 .f32 := Memref.whole cc0_stg2_0
abbrev sM : Memref sig .tc .vmem S2x128x2048 .bf16 := Memref.whole cc0_scratch0
abbrev rM : Memref sig .tc .vmem S2x128x2048 .bf16 := Memref.whole cc0_scratch1

/-- The slot of hop `g`. -/
abbrev slotOf (g : ℕ) : Fin 2 := ⟨g % 2, Nat.mod_lt _ (by decide)⟩

theorem slot_inb (s : Fin 2) : ∀ a, (![s.val] : Fin 1 → ℕ) a + S1.size a ≤ S2.size a := by revert s; decide
theorem slot_inb3 (s : Fin 2) : ∀ a, (![s.val, 0, 0] : Fin 3 → ℕ) a + S1x128x2048.size a ≤ S2x128x2048.size a := by revert s; decide

/-- Slot `s` of a two-slot buffer. -/
abbrev slotRect (s : Fin 2) : Rect S2x128x2048 := Rect.unit (s := S2x128x2048) ![s.val, 0, 0] S1x128x2048.size (slot_inb3 s)

/-- Slot `s` of the send buffer and of the receive buffer, as the transfers name them. -/
abbrev sendSlot (s : Fin 2) : Memref sig .tc .vmem S128x2048 .bf16 :=
  (sM.slice (slotRect s) (fun _ => rfl)).squeeze S128x2048 squeezes_S1x128x2048_S128x2048
abbrev recvSlot (s : Fin 2) : Memref sig .tc .vmem S128x2048 .bf16 :=
  (rM.slice (slotRect s) (fun _ => rfl)).squeeze S128x2048 squeezes_S1x128x2048_S128x2048

abbrev barS : Sem sig := (SemArray.scalar (sig.barrier 0 rfl) : Sems sig S_).sem
abbrev creditS (s : Fin 2) : Sem sig :=
  ((cc0_scratch4.slice (Rect.unit (s := S2) ![s.val] S1.size (slot_inb s))).squeeze S_ squeezes_S1_S_ : Sems sig S_).sem
abbrev sendS (s : Fin 2) : DmaSem sig :=
  ((cc0_scratch2.slice (Rect.unit (s := S2) ![s.val] S1.size (slot_inb s))).squeeze S_ squeezes_S1_S_ : DmaSems sig S_).sem
abbrev recvS (s : Fin 2) : DmaSem sig :=
  ((cc0_scratch3.slice (Rect.unit (s := S2) ![s.val] S1.size (slot_inb s))).squeeze S_ squeezes_S1_S_ : DmaSems sig S_).sem

/-- What one of the protocol's semaphores is for. -/
inductive Role where
  | bar
  | credit (s : Fin 2)
  | recv (s : Fin 2)
  | send (s : Fin 2)
  deriving DecidableEq

/-- All the roles, listed. -/
def roles : List Role := [.bar, .credit 0, .credit 1, .recv 0, .recv 1, .send 0, .send 1]

theorem roles_nodup : roles.Nodup := by decide
theorem mem_roles (r : Role) : r ∈ roles := by
  cases r with
  | bar => decide
  | credit s => revert s; decide
  | recv s => revert s; decide
  | send s => revert s; decide

instance : Fintype Role := ⟨⟨(roles : Multiset Role), roles_nodup⟩, mem_roles⟩

/-- The semaphore of a role. -/
abbrev Role.sem : Role → SemLoc sig
  | .bar => .reg barS
  | .credit s => .reg (creditS s)
  | .recv s => .dma (recvS s)
  | .send s => .dma (sendS s)

/-- The role of a semaphore, if it has one. -/
def roleOf (sm : SemLoc sig) : Option Role := roles.find? fun r => r.sem = sm

theorem roleOf_sem (r : Role) : roleOf r.sem = some r := by
  cases r with
  | bar => decide
  | credit s => revert s; decide
  | recv s => revert s; decide
  | send s => revert s; decide

theorem Role.sem_injective : Function.Injective Role.sem := fun a b h => by
  have := roleOf_sem a
  rw [h, roleOf_sem] at this
  exact (Option.some.inj this).symm

/-- A device's cell of a role. -/
abbrev kcell (ck : Dev nD × Role) : GSem nD τ sig := ((ck.1 : Thread nD τ), ck.2.sem)
abbrev barCell (c : Dev nD) : GSem nD τ sig := ((c : Thread nD τ), .reg barS)
abbrev creditCell (c : Dev nD) (s : Fin 2) : GSem nD τ sig := ((c : Thread nD τ), .reg (creditS s))
abbrev recvCell (c : Dev nD) (s : Fin 2) : GSem nD τ sig := ((c : Thread nD τ), .dma (recvS s))
abbrev sendCell (c : Dev nD) (s : Fin 2) : GSem nD τ sig := ((c : Thread nD τ), .dma (sendS s))

theorem kcell_injective : Function.Injective kcell := fun a b h => by
  have h1 : a.1 = b.1 := congrArg (fun g : GSem nD τ sig => g.1.1) h
  have h2 : a.2.sem = b.2.sem := congrArg (fun g : GSem nD τ sig => g.2) h
  exact Prod.ext h1 (Role.sem_injective h2)

/-- The credit of one chunk's transfer. -/
abbrev N : ℕ := (recvSlot 0).view.dmaCredit
theorem N_pos : 0 < N := View.dmaCredit_pos _ (by decide)
theorem credit_send (s : Fin 2) : (sendSlot s).view.dmaCredit = N := rfl
theorem credit_recv (s : Fin 2) : (recvSlot s).view.dmaCredit = N := rfl

/-! ## The slots' ownership and what a receive slot holds -/

def sendPts (c : Dev nD) (s : Fin 2) (f : Buf (Elt F) ((sendSlot s).view.loc (c : Thread nD τ))) : sProp 𝕄 :=
  (sendSlot s).view.loc (c : Thread nD τ) ↦[(sendSlot s).view.set]{fullShare} f
def recvPts (c : Dev nD) (s : Fin 2) (f : Buf (Elt F) ((recvSlot s).view.loc (c : Thread nD τ))) : sProp 𝕄 :=
  (recvSlot s).view.loc (c : Thread nD τ) ↦[(recvSlot s).view.set]{fullShare} f

/-- What a load of receive slot `s` reads. -/
abbrev recvRead (s : Fin 2) (f : (cc0_scratch1 : Ref sig .tc).ty.Contents (Elt F)) : Vec F S1x128x2048 .bf16 :=
  rM.view.readAt (Elt F) (slotRect s).toLoadRect f

instance sendPts_storable (c : Dev nD) (s : Fin 2) (f) : BI.Storable (upEmb : UEmb _ 𝕄) (sendPts (F := F) c s f) := by
  unfold sendPts; infer_instance
instance recvPts_storable (c : Dev nD) (s : Fin 2) (f) : BI.Storable (upEmb : UEmb _ 𝕄) (recvPts (F := F) c s f) := by
  unfold recvPts; infer_instance

/-! ## The schedule -/

-- `snt g c`: what device `c` sends on hop `g`
variable (snt : ℕ → Dev nD → Vec F S1x128x2048 .bf16)

/-- The credit for hop `h` hands the sender the next device's receive slot, at any contents, with the slot's cell having
    reached the hop's round. (Two credits are given out at the end for hops that never come: they hand nothing.) -/
def creditPay (c : Dev nD) (h : ℕ) : sProp 𝕄 :=
  if h < 62 then iprop((∃ f, recvPts (nxt c) (slotOf h) f) ∗ reached ER (recvCell (nxt c) (slotOf h)) (h / 2)) else iprop(emp)
/-- The landing of hop `h` hands the receiver its own slot back, holding what the previous device sent, and that the
    previous device's credit cell has reached the next round. -/
def recvPay (c : Dev nD) (h : ℕ) : sProp 𝕄 :=
  iprop((∃ f, ⌜recvRead (slotOf h) f = snt h (prv c)⌝ ∗ recvPts c (slotOf h) f) ∗ reached ER (creditCell (prv c) (slotOf h)) (h / 2 + 1))
/-- The completion of a send hands the sender its own slot back. -/
def sendPay (c : Dev nD) (s : Fin 2) : sProp 𝕄 := iprop(∃ f, sendPts c s f)

/-- The duties of round `r` of a role's cell. -/
def Role.duties : Role → ℕ → Finset Bool
  | .bar, r => if r = 0 then Finset.univ else ∅
  | .credit _, r => if r < 32 then {false} else ∅
  | .recv _, r => if r < 31 then {false} else ∅
  | .send _, r => if r < 31 then {false} else ∅

/-- The units one duty of a role's cell pays. -/
def Role.amount : Role → ℕ
  | .bar => 1
  | .credit _ => 1
  | .recv _ => N
  | .send _ => N

theorem Role.amount_pos (r : Role) : 0 < r.amount := by
  cases r with
  | bar => exact Nat.one_pos
  | credit s => exact Nat.one_pos
  | recv s => exact N_pos
  | send s => exact N_pos

/-- What round `r` of a role's cell of device `c` hands over. -/
def Role.payload (c : Dev nD) : Role → ℕ → sProp 𝕄
  | .bar, _ => iprop(emp)
  | .credit s, r => creditPay c (2 * r + s.val)
  | .recv s, r => recvPay snt c (2 * r + s.val)
  | .send s, _ => sendPay c s

/-- The schedule of every cell. -/
def ringRd : Rounds.Schedule (GSem nD τ sig) Bool 𝕄 where
  duties g r := if g.1.2 = .tc then (roleOf g.2).elim ∅ (fun k => k.duties r) else ∅
  unitless _ := False
  amount g _ _ := (roleOf g.2).elim 1 Role.amount
  payload g r _ := (roleOf g.2).elim iprop(emp) (fun k => k.payload snt g.1.1 r)
  amount_pos g _ _ _ := by
    cases roleOf g.2 with
    | none => exact Nat.one_pos
    | some k => exact k.amount_pos

instance payload_storable (c : Dev nD) (k : Role) (r : ℕ) : BI.Storable (upEmb : UEmb _ 𝕄) (k.payload (F := F) snt c r) := by
  cases k with
  | bar => unfold Role.payload; infer_instance
  | credit s =>
    show BI.Storable upEmb (creditPay c (2 * r + s.val))
    unfold creditPay; split <;> infer_instance
  | recv s =>
    show BI.Storable upEmb (recvPay snt c (2 * r + s.val))
    unfold recvPay; infer_instance
  | send s =>
    show BI.Storable upEmb (sendPay c s)
    unfold sendPay; infer_instance

instance ringRd_payload_storable (g : GSem nD τ sig) (r : ℕ) (d : Bool) :
    BI.Storable (upEmb : UEmb _ 𝕄) ((ringRd (F := F) snt).payload g r d) := by
  show BI.Storable upEmb ((roleOf g.2).elim iprop(emp) (fun k => k.payload snt g.1.1 r))
  cases roleOf g.2 with
  | none => show BI.Storable upEmb iprop(emp); infer_instance
  | some k => exact payload_storable snt g.1.1 k r

section Facts
variable (c : Dev nD) (k : Role) (r : ℕ)

theorem duties_k : (ringRd (F := F) snt).duties (kcell (c, k)) r = k.duties r := by
  show (if (c : Thread nD τ).2 = .tc then (roleOf k.sem).elim ∅ (fun k => k.duties r) else ∅) = _
  rw [roleOf_sem]; exact if_pos rfl
theorem amount_k (d : Bool) : (ringRd (F := F) snt).amount (kcell (c, k)) r d = k.amount := by
  show (roleOf k.sem).elim 1 Role.amount = _
  rw [roleOf_sem]; rfl
theorem payload_k (d : Bool) : (ringRd (F := F) snt).payload (kcell (c, k)) r d = k.payload snt c r := by
  show (roleOf k.sem).elim iprop(emp) (fun k => k.payload snt c r) = _
  rw [roleOf_sem]; rfl

/-- A round with the one duty `false` expects the role's amount. -/
theorem expect_one (h : k.duties r = {false}) : (ringRd (F := F) snt).expect (kcell (c, k)) r = k.amount := by
  unfold Schedule.expect Schedule.amountOf; rw [duties_k, h, Finset.sum_singleton, amount_k]
/-- The rest of a round with the one duty `false` is the role's payload. -/
theorem rest_one (h : k.duties r = {false}) :
    bigSep ((ringRd (F := F) snt).duties (kcell (c, k)) r \ ∅) (fun d => (ringRd (F := F) snt).payload (kcell (c, k)) r d) = k.payload snt c r := by
  rw [Finset.sdiff_empty, duties_k, h, bigSep_singleton, payload_k]

/-- The barrier's round expects one unit from either neighbour. -/
theorem expect_bar : (ringRd (F := F) snt).expect (barCell c) 0 = 2 := by
  show (ringRd (F := F) snt).expect (kcell (c, .bar)) 0 = 2
  unfold Schedule.expect Schedule.amountOf
  rw [duties_k, Finset.sum_congr rfl fun d _ => amount_k snt c .bar 0 d]; rfl

theorem duties_credit (s : Fin 2) (h : r < 32) : (Role.credit s).duties r = {false} := if_pos h
theorem duties_recv (s : Fin 2) (h : r < 31) : (Role.recv s).duties r = {false} := if_pos h
theorem duties_send (s : Fin 2) (h : r < 31) : (Role.send s).duties r = {false} := if_pos h

/-- The last round of a role's cell is over. -/
def Role.last : Role → ℕ
  | .bar => 1
  | .credit _ => 32
  | .recv _ => 31
  | .send _ => 31

theorem duties_later (r' : ℕ) (h : k.last ≤ r') : (ringRd (F := F) snt).duties (kcell (c, k)) r' = ∅ := by
  rw [duties_k]
  cases k with
  | bar => exact if_neg (by have : 1 ≤ r' := h; omega)
  | credit s => exact if_neg (by have : 32 ≤ r' := h; omega)
  | recv s => exact if_neg (by have : 31 ≤ r' := h; omega)
  | send s => exact if_neg (by have : 31 ≤ r' := h; omega)

end Facts

/-- Every hop is its slot's hop of its round. -/
theorem hop_eq (g : ℕ) : 2 * (g / 2) + (slotOf g).val = g := Nat.div_add_mod g 2
theorem slotOf_two (g : ℕ) : slotOf (g + 2) = slotOf g := Fin.ext (Nat.add_mod_right g 2)

/-! ## What each device owes; the levels -/

/-- What device `c` still owes when it has yet to make the transfers of hops `a, …, 61` and to give out the credits for
    hops `b, …, 63`. -/
def owedAt (c : Dev nD) (a b : ℕ) : CellTallies nD τ sig ℕ :=
  (∑ i ∈ Finset.Ico a 62, tallyAt (recvCell (nxt c) (slotOf i)) i N) + ∑ i ∈ Finset.Ico b 64, tallyAt (creditCell (prv c) (slotOf i)) i 1

/-- What device `c` owes at launch: every transfer, every credit, and a unit to either neighbour's barrier cell. -/
def O₁ (c : Dev nD) : CellTallies nD τ sig ℕ := owedAt c 0 0 + tallyAt (barCell (nxt c)) 0 1
def O₀ (c : Dev nD) : CellTallies nD τ sig ℕ := O₁ c + tallyAt (barCell (prv c)) 0 1

theorem owedAt_send (c : Dev nD) {g b : ℕ} (h : g < 62) : owedAt c g b = owedAt c (g + 1) b + tallyAt (recvCell (nxt c) (slotOf g)) g N := by
  unfold owedAt; rw [Finset.sum_eq_sum_Ico_succ_bot h]; abel
theorem owedAt_credit (c : Dev nD) {a b : ℕ} (h : b < 64) : owedAt c a b = owedAt c a (b + 1) + tallyAt (creditCell (prv c) (slotOf b)) b 1 := by
  unfold owedAt; rw [Finset.sum_eq_sum_Ico_succ_bot h]; abel
theorem owedAt_end (c : Dev nD) {a b : ℕ} (ha : 62 ≤ a) (hb : 64 ≤ b) : owedAt c a b = 0 := by
  unfold owedAt; rw [Finset.Ico_eq_empty_of_le ha, Finset.Ico_eq_empty_of_le hb, Finset.sum_empty, Finset.sum_empty, add_zero]

theorem tally_pos {g g' : GSem nD τ sig} {i u n : ℕ} (h : 0 < tallyAt g' i n g u) : g = g' ∧ u = i := by
  rw [tallyAt_apply] at h
  by_contra hn
  rw [if_neg hn] at h
  exact Nat.lt_irrefl 0 h

theorem sum_tally_pos {f : ℕ → GSem nD τ sig} {n : ℕ} {S : Finset ℕ} {g : GSem nD τ sig} {u : ℕ}
    (h : 0 < (∑ i ∈ S, tallyAt (f i) i n) g u) : u ∈ S ∧ g = f u := by
  rw [Finset.sum_apply, Finsupp.finset_sum_apply] at h
  obtain ⟨i, hi, hp⟩ := Finset.exists_ne_zero_of_sum_ne_zero (Nat.pos_iff_ne_zero.mp h)
  obtain ⟨h1, h2⟩ := tally_pos (Nat.pos_of_ne_zero hp)
  subst h2
  exact ⟨hi, h1⟩

theorem owedAt_pos {c : Dev nD} {a b : ℕ} {g : GSem nD τ sig} {u : ℕ} (h : 0 < owedAt c a b g u) :
    (a ≤ u ∧ u < 62 ∧ g = recvCell (nxt c) (slotOf u)) ∨ (b ≤ u ∧ u < 64 ∧ g = creditCell (prv c) (slotOf u)) := by
  unfold owedAt at h
  rw [Pi.add_apply, Finsupp.add_apply] at h
  rcases Nat.add_pos_iff_pos_or_pos.mp h with h1 | h1
  · obtain ⟨hu, hg⟩ := sum_tally_pos h1
    exact .inl ⟨(Finset.mem_Ico.mp hu).1, (Finset.mem_Ico.mp hu).2, hg⟩
  · obtain ⟨hu, hg⟩ := sum_tally_pos h1
    exact .inr ⟨(Finset.mem_Ico.mp hu).1, (Finset.mem_Ico.mp hu).2, hg⟩

/-- The indices a core's cells carry: the hops. -/
def L (g : GSem nD τ sig) : Finset ℕ := if g.1.2 = .tc then Finset.range 64 else ∅

/-- The level of a role's cell at hop `i`. -/
def Role.lv : Role → ℕ → ℕ
  | .bar, _ => 1
  | .credit _, i => 2 * i + 2
  | .recv _, i => 2 * i + 3
  | .send _, _ => 0

/-- The level of a cell at an index: the staging and send cells lowest, then the barrier, then hop by hop the credit and
    the landing. -/
def lv (g : GSem nD τ sig) (i : ℕ) : ℕ := (roleOf g.2).elim 0 (fun k => k.lv i)

theorem L_of_ne (g : GSem nD τ sig) (h : g.1.2 ≠ .tc) : L g = ∅ := if_neg h
theorem mem_L (c : Dev nD) (sm : SemLoc sig) {i : ℕ} (h : i < 64) : i ∈ L ((c : Thread nD τ), sm) := by
  unfold L; rw [if_pos rfl]; exact Finset.mem_range.mpr h
theorem lv_k (c : Dev nD) (k : Role) (i : ℕ) : lv (kcell (c, k)) i = k.lv i := by
  show (roleOf k.sem).elim 0 (fun k => k.lv i) = _
  rw [roleOf_sem]; rfl

/-- A wait at level `n` is allowed while every debt is to a cell, at a hop, of a higher level. -/
theorem mayWait_of (c : Dev nD) (sm : SemLoc sig) (i n : ℕ) (hi : i < 64) (O : CellTallies nD τ sig ℕ)
    (hlv : lv ((c : Thread nD τ), sm) i ≤ n)
    (hO : ∀ g u, 0 < O g u → ∃ (d : Dev nD) (k : Role), g = kcell (d, k) ∧ u < 64 ∧ n < k.lv u) :
    (levAts L lv : sProp 𝕄) ⊢ MayWait (c : Thread nD τ) sm i O :=
  MayOwe.of_cut (L := L) (lev := lv) n (fun p hp => by rw [Finset.mem_singleton.mp hp]; exact mem_L c sm hi)
    (fun g u hg => by obtain ⟨d, k, rfl, hu, -⟩ := hO g u hg; exact mem_L d k.sem hu)
    (fun p hp => by rw [Finset.mem_singleton.mp hp]; exact hlv)
    (fun g u hg => by obtain ⟨d, k, rfl, -, hl⟩ := hO g u hg; rw [lv_k]; exact hl)

/-- Debts of transfers from hop `a` on and of credits from hop `b` on lie above any level below `2 a + 3` and `2 b + 2`. -/
theorem owedAt_above {c : Dev nD} {a b n : ℕ} (ha : n < 2 * a + 3) (hb : n < 2 * b + 2) (g : GSem nD τ sig) (u : ℕ)
    (h : 0 < owedAt c a b g u) : ∃ (d : Dev nD) (k : Role), g = kcell (d, k) ∧ u < 64 ∧ n < k.lv u := by
  rcases owedAt_pos h with ⟨h1, h2, rfl⟩ | ⟨h1, h2, rfl⟩
  · exact ⟨nxt c, .recv (slotOf u), rfl, by omega, show n < 2 * u + 3 by omega⟩
  · exact ⟨prv c, .credit (slotOf u), rfl, h2, show n < 2 * u + 2 by omega⟩

theorem mayWait_credit (c : Dev nD) (g a b : ℕ) (hg : g < 64) (ha : g ≤ a) (hb : g < b) :
    (levAts L lv : sProp 𝕄) ⊢ MayWait (c : Thread nD τ) (.reg (creditS (slotOf g))) g (owedAt c a b) :=
  mayWait_of c _ g (2 * g + 2) hg _ (le_of_eq (lv_k c (.credit (slotOf g)) g)) (owedAt_above (by omega) (by omega))
theorem mayWait_recv (c : Dev nD) (g a b : ℕ) (hg : g < 64) (ha : g < a) (hb : g < b) :
    (levAts L lv : sProp 𝕄) ⊢ MayWait (c : Thread nD τ) (.dma (recvS (slotOf g))) g (owedAt c a b) :=
  mayWait_of c _ g (2 * g + 3) hg _ (le_of_eq (lv_k c (.recv (slotOf g)) g)) (owedAt_above (by omega) (by omega))
theorem mayWait_send (c : Dev nD) (s : Fin 2) (a b : ℕ) :
    (levAts L lv : sProp 𝕄) ⊢ MayWait (c : Thread nD τ) (.dma (sendS s)) 0 (owedAt c a b) :=
  mayWait_of c _ 0 0 (by decide) _ (le_of_eq (lv_k c (.send s) 0)) (owedAt_above (by omega) (by omega))
theorem mayWait_bar (c : Dev nD) : (levAts L lv : sProp 𝕄) ⊢ MayWait (c : Thread nD τ) (.reg barS) 0 (owedAt c 0 0) :=
  mayWait_of c _ 0 1 (by decide) _ (le_of_eq (lv_k c .bar 0)) (owedAt_above (by omega) (by omega))

/-- At a staging cell a device may wait whatever it owes of the above, or owing nothing. -/
theorem mayWait_stage (c : Dev nD) (q : DmaSem sig) (hq : roleOf (.dma q) = none) (O : CellTallies nD τ sig ℕ) (hO : O = O₀ c ∨ O = 0) :
    (levAts L lv : sProp 𝕄) ⊢ MayWait (c : Thread nD τ) (.dma q) 0 O := by
  rcases hO with rfl | rfl
  · refine mayWait_of c _ 0 0 (by decide) _ (le_of_eq ?_) fun g u h => ?_
    · show (roleOf (.dma q)).elim 0 (fun k => k.lv 0) = 0
      rw [hq]; rfl
    · unfold O₀ O₁ at h
      rw [Pi.add_apply, Finsupp.add_apply, Pi.add_apply, Finsupp.add_apply] at h
      rcases Nat.add_pos_iff_pos_or_pos.mp h with h | h
      · rcases Nat.add_pos_iff_pos_or_pos.mp h with h | h
        · exact owedAt_above (by omega) (by omega) g u h
        · obtain ⟨rfl, rfl⟩ := tally_pos h
          exact ⟨nxt c, .bar, rfl, by decide, show 0 < 1 by decide⟩
      · obtain ⟨rfl, rfl⟩ := tally_pos h
        exact ⟨prv c, .bar, rfl, by decide, show 0 < 1 by decide⟩
  · rw [MayWait_zero]; iintro -; iempintro

end Cert.Proof

end
-- ==== Proof.Loops.lean ====
/-
  The kernel's three loops that only compute: the local product block by block, the largest element, the quantisation.
-/
module

public import proofs.«01_k».proof.Proof.Sched
public import proofs.«01_k».proof.Proof.State

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-! ## The loops' bodies at the kernel's buffers -/

section Bodies
variable (c : Dev nD) (v2 v13 v24 : BitVec 32)

abbrev body1 (w : Vec F S128x2048 .bf16) :=
  k0_t1_body (F := F) xM (Memref.isWhole_whole _) wM (Memref.isWhole_whole _) oM (Memref.isWhole_whole _) sM (Memref.isWhole_whole _)
    rM (Memref.isWhole_whole _) cc0_scratch2 cc0_scratch3 cc0_scratch4 c v2 v13 v24 w
abbrev body2 :=
  k0_t2_body (F := F) xM (Memref.isWhole_whole _) wM (Memref.isWhole_whole _) oM (Memref.isWhole_whole _) sM (Memref.isWhole_whole _)
    rM (Memref.isWhole_whole _) cc0_scratch2 cc0_scratch3 cc0_scratch4 c v2 v13 v24
abbrev body3 :=
  k0_t3_body (F := F) xM (Memref.isWhole_whole _) wM (Memref.isWhole_whole _) oM (Memref.isWhole_whole _) sM (Memref.isWhole_whole _)
    rM (Memref.isWhole_whole _) cc0_scratch2 cc0_scratch3 cc0_scratch4 c v2 v13 v24
abbrev body4 :=
  k0_t4_body (F := F) xM (Memref.isWhole_whole _) wM (Memref.isWhole_whole _) oM (Memref.isWhole_whole _) sM (Memref.isWhole_whole _)
    rM (Memref.isWhole_whole _) cc0_scratch2 cc0_scratch3 cc0_scratch4 c v2 v13 v24
abbrev body5 (v49 : F .f32) :=
  k0_t5_body (F := F) xM (Memref.isWhole_whole _) wM (Memref.isWhole_whole _) oM (Memref.isWhole_whole _) sM (Memref.isWhole_whole _)
    rM (Memref.isWhole_whole _) cc0_scratch2 cc0_scratch3 cc0_scratch4 v49

end Bodies

/-- Ownership of a device's staged first argument, staged second argument and output. -/
abbrev xPts (c : Dev nD) (f : Vec F S4096x128 .bf16) : sProp 𝕄 := ((c : Thread nD τ).loc cc0_stg0_0) ↦{fullShare} f
abbrev wPts (c : Dev nD) (f : Vec F S128x2048 .bf16) : sProp 𝕄 := ((c : Thread nD τ).loc cc0_stg1_0) ↦{fullShare} f
abbrev oPts (c : Dev nD) (f : Vec F S4096x2048 .f32) : sProp 𝕄 := ((c : Thread nD τ).loc cc0_stg2_0) ↦{fullShare} f

/-- A load of rows of the output reads those rows. -/
theorem load_o {B : ℕ} (f : Vec F S4096x2048 .f32) (o : ℕ) (h : o + B ≤ 4096) {off : Fin 2 → ℕ} (ho : off = ![o, 0])
    (inb : ∀ a, off a + (![B, 2048] : Fin 2 → ℕ) a ≤ S4096x2048.size a) :
    oM.view.readAt (Elt F) (Rect.unit (s := S4096x2048) off ![B, 2048] inb).toLoadRect f = takeRows o h f :=
  (readAt_rows oM.view f o h ho inb).trans (congrArg (takeRows o h) (View.read_whole _ _))
/-- A load of rows of the first argument reads those rows. -/
theorem load_x {B : ℕ} (f : Vec F S4096x128 .bf16) (o : ℕ) (h : o + B ≤ 4096) {off : Fin 2 → ℕ} (ho : off = ![o, 0])
    (inb : ∀ a, off a + (![B, 128] : Fin 2 → ℕ) a ≤ S4096x128.size a) :
    xM.view.readAt (Elt F) (Rect.unit (s := S4096x128) off ![B, 128] inb).toLoadRect f = takeRows o h f :=
  (readAt_rows xM.view f o h ho inb).trans (congrArg (takeRows o h) (View.read_whole _ _))
/-- A store of rows of the output replaces those rows. -/
theorem store_o {B : ℕ} (f : Vec F S4096x2048 .f32) (o : ℕ) (h : o + B ≤ 4096) {off : Fin 2 → ℕ} (ho : off = ![o, 0])
    (inb : ∀ a, off a + (![B, 2048] : Fin 2 → ℕ) a ≤ S4096x2048.size a) (w : (⟨2, ![B, 2048]⟩ : Shape).Idx → Elt F .f32) :
    (oM.access (Rect.unit (s := S4096x2048) off ![B, 2048] inb)).write (Elt F) f w Finset.univ = putRows o f w := by
  refine ((View.read_whole (Val := Elt F) cc0_stg2_0 _).symm.trans (read_write_rows oM.view f o h ho inb w)).trans ?_
  exact congrArg (fun g => putRows o g w) (View.read_whole (Val := Elt F) cc0_stg2_0 f)

section Steps
variable (c : Dev nD) (v2 v13 v24 : BitVec 32)

/-- One trip of the product loop: one more block of the product. -/
theorem step1 (x : Vec F S4096x128 .bf16) (w : Vec F S128x2048 .bf16) (f : Vec F S4096x2048 .f32) (k : Fin k0_t1_loop.trips) (u : Unit) :
    iprop(xPts c x ∗ oPts c (upTo (C := 2048) k.val f (gemm x w)))
      ⊢ wp frame (wpE (defs₀ (F := F)) 𝒱₀ (c : Thread nD τ) none) Set.univ (body1 c v2 v13 v24 w k u)
          (fun _ => iprop(xPts c x ∗ oPts c (upTo (C := 2048) (k.val + 1) f (gemm x w))) : Unit → sProp 𝕄) := by
  have hk : k.val < 16 := trips1 ▸ k.isLt
  unfold body1 k0_t1_body
  simp only [Prog.lift, Prog.bind_op, Prog.bind_ret, Prog.pure_eq_ret]
  iintro ⟨Hx, Ho⟩
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Ho; iintro Ho
  iapply (wp_store 𝒱₀ (c : Thread nD τ) none Set.univ (m := oM)
    (r := Rect.unit (s := S4096x2048) (k0_off2 k) S256x2048.size (k0_off2_inb k)) (Mk := Finset.univ) (Finset.subset_univ _)) $$ Ho; iintro Ho
  rw [wp_ret]; imodintro
  isplitl [Hx]; · iexact Hx
  have e : (oM.access (Rect.unit (s := S4096x2048) (k0_off2 k) S256x2048.size (k0_off2_inb k))).write (Elt F)
      (upTo (C := 2048) k.val f (gemm x w))
      (k0_pay6 w (xM.view.readAt (Elt F) (Rect.unit (s := S4096x128) (k0_off1 k) S256x128.size (k0_off1_inb k)).toLoadRect x)) Finset.univ
      = upTo (C := 2048) (k.val + 1) f (gemm x w) :=
    (store_o _ (256 * k.val) (blk_le hk) (k0_off2_eq k) (k0_off2_inb k) _).trans
      ((congrArg (fun y => putRows (256 * k.val) (upTo (C := 2048) k.val f (gemm x w)) (k0_pay6 w y))
        (load_x x (256 * k.val) (blk_le hk) (k0_off1_eq k) (k0_off1_inb k))).trans (putRows_upTo hk (k0_pay6 w) f x))
  rw [← e]
  iexact Ho

/-- One trip of the maximum loop: one more block's maximum. -/
theorem step4 (f : Vec F S4096x2048 .f32) (k : Fin k0_t4_loop.trips) (a : F .f32) :
    iprop(⌜a = amaxTo f k.val⌝ ∗ oPts c f)
      ⊢ wp frame (wpE (defs₀ (F := F)) 𝒱₀ (c : Thread nD τ) none) Set.univ (body4 c v2 v13 v24 k a)
          (fun a' => iprop(⌜a' = amaxTo f (k.val + 1)⌝ ∗ oPts c f) : F .f32 → sProp 𝕄) := by
  have hk : k.val < 16 := trips4 ▸ k.isLt
  unfold body4 k0_t4_body
  simp only [Prog.lift, Prog.bind_op, Prog.bind_ret, Prog.pure_eq_ret]
  iintro ⟨%ha, Ho⟩
  iapply (wp_load 𝒱₀ (c : Thread nD τ) none Set.univ (m := oM) (Finset.subset_univ _)) $$ Ho; iintro Ho
  rw [wp_ret]; imodintro
  isplitr
  · ipureintro
    subst ha
    exact congrArg (k0_pay7 (amaxTo f k.val)) (load_o f (256 * (k.val % 16)) (by omega)
      (by rw [k0_off13_eq, Nat.mod_eq_of_lt hk]) (k0_off13_inb k))
  · iexact Ho

/-- One trip of the quantising loop: one more block quantised. -/
theorem step5 (s : F .f32) (f : Vec F S4096x2048 .f32) (k : Fin k0_t5_loop.trips) (u : Unit) :
    oPts c (upTo (C := 2048) k.val f (byBlocks (C := 2048) (C' := 2048) (k0_pay1 s) f))
      ⊢ wp frame (wpE (defs₀ (F := F)) 𝒱₀ (c : Thread nD τ) none) Set.univ (body5 s k u)
          (fun _ => oPts c (upTo (C := 2048) (k.val + 1) f (byBlocks (C := 2048) (C' := 2048) (k0_pay1 s) f)) : Unit → sProp 𝕄) := by
  have hk : k.val < 16 := trips5 ▸ k.isLt
  unfold body5 k0_t5_body
  simp only [Prog.lift, Prog.bind_op, Prog.bind_ret, Prog.pure_eq_ret]
  iintro Ho
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM)
    (r := Rect.unit (s := S4096x2048) (k0_off14 k) S256x2048.size (k0_off14_inb k)) (Mk := Finset.univ) (Finset.subset_univ _)) $$ Ho; iintro Ho
  rw [wp_ret]; imodintro
  have e : (oM.access (Rect.unit (s := S4096x2048) (k0_off14 k) S256x2048.size (k0_off14_inb k))).write (Elt F)
      (upTo (C := 2048) k.val f (byBlocks (C := 2048) (C' := 2048) (k0_pay1 s) f))
      (k0_pay1 s (oM.view.readAt (Elt F) (Rect.unit (s := S4096x2048) (k0_off14 k) S256x2048.size (k0_off14_inb k)).toLoadRect
        (upTo (C := 2048) k.val f (byBlocks (C := 2048) (C' := 2048) (k0_pay1 s) f)))) Finset.univ
      = upTo (C := 2048) (k.val + 1) f (byBlocks (C := 2048) (C' := 2048) (k0_pay1 s) f) :=
    (store_o _ (256 * k.val) (blk_le hk) (k0_off14_eq k) (k0_off14_inb k) _).trans
      ((congrArg (fun y => putRows (256 * k.val) (upTo (C := 2048) k.val f (byBlocks (C := 2048) (C' := 2048) (k0_pay1 s) f)) (k0_pay1 s y))
        ((load_o _ (256 * k.val) (blk_le hk) (k0_off14_eq k) (k0_off14_inb k)).trans (takeRows_upTo hk f _))).trans
        (putRows_upTo hk (k0_pay1 s) f f))
  rw [← e]
  iexact Ho

end Steps

end Cert.Proof

end
-- ==== Proof.Hop.lean ====
/-
  One hop of the ring, from the wait for credit to the landing of the chunk received: the part that the two phases share. And
  the bookkeeping of the resources a device carries from hop to hop.
-/
module

public import proofs.«01_k».proof.Proof.Loops

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (snt : ℕ → Dev nD → Vec F S1x128x2048 .bf16) (K : Dev nD × Role → ℕ)

/-- Every cell's invariant, and that every cell has begun. -/
def records : sProp 𝕄 :=
  iprop((bigSep Finset.univ fun ck : Dev nD × Role => cellInv ER (ringRd snt) (K ck) (kcell ck))
    ∗ bigSep Finset.univ fun ck : Dev nD × Role => reached ER (kcell ck) 0)

instance records_persistent : BI.Persistent (records snt K) := by unfold records; infer_instance

theorem inv_of (ck : Dev nD × Role) : records snt K ⊢ cellInv ER (ringRd snt) (K ck) (kcell ck) := by
  unfold records
  exact Laws.sep_elim_left.trans (bigSep_elim (Finset.mem_univ ck))
theorem reached_of (ck : Dev nD × Role) : records snt K ⊢ reached ER (kcell ck) 0 := by
  unfold records
  exact Laws.sep_elim_right.trans (bigSep_elim (Finset.mem_univ ck))

/-! ## What a device carries from hop to hop -/

/-- What hop `i` of device `c` pays with and waits with: the tokens of its transfer's two ends and of the credit it gives
    for the slot's next hop; its claims on the credit it waits for and on the chunk it receives. -/
def hopToks (c : Dev nD) (i : ℕ) : sProp 𝕄 :=
  iprop(dutyTok ER (recvCell (nxt c) (slotOf i)) (i / 2) false ∗ dutyTok ER (sendCell c (slotOf i)) (i / 2) false
    ∗ dutyTok ER (creditCell (prv c) (slotOf i)) (i / 2 + 1) false
    ∗ cred (tallyAt (creditCell c (slotOf i)) i 1) ∗ cred (tallyAt (recvCell c (slotOf i)) i N))

/-- A slot's state at round `R` of its three cells, the send buffer's slot at any contents. -/
def slotSt (c : Dev nD) (R : ℕ) (s : Fin 2) : sProp 𝕄 :=
  iprop(atPos ER (creditCell c s) R ∅ 0 ∗ atPos ER (recvCell c s) R ∅ 0 ∗ atPos ER (sendCell c s) R ∅ 0
    ∗ reached ER (sendCell c s) R ∗ ∃ f, sendPts c s f)

/-- Both slots' states before hop `g`. -/
def slots (c : Dev nD) (g : ℕ) : sProp 𝕄 := iprop(slotSt c ((g + 1) / 2) 0 ∗ slotSt c (g / 2) 1)

/-- The slot of the hop at hand, and how it goes back. -/
theorem slots_take (c : Dev nD) (g : ℕ) :
    (slots c g : sProp 𝕄) ⊢ iprop(slotSt c (g / 2) (slotOf g) ∗ (slotSt c (g / 2 + 1) (slotOf g) -∗ slots c (g + 1))) := by
  unfold slots
  rcases Nat.mod_two_eq_zero_or_one g with h | h
  · rw [show slotOf g = 0 from Fin.ext h, show (g + 1) / 2 = g / 2 by omega, show (g + 1 + 1) / 2 = g / 2 + 1 by omega]
    iintro ⟨H0, H1⟩
    isplitl [H0]; · iexact H0
    iintro H0
    isplitl [H0]; · iexact H0
    iexact H1
  · rw [show slotOf g = 1 from Fin.ext h, show (g + 1 + 1) / 2 = (g + 1) / 2 by omega, show (g + 1) / 2 = g / 2 + 1 by omega]
    iintro ⟨H0, H1⟩
    isplitl [H1]; · iexact H1
    iintro H1
    isplitl [H0]; · iexact H0
    iexact H1

/-- The receive slots that stay with the device at the end: those of the last two hops, once they are over. -/
def kept (c : Dev nD) (g : ℕ) : sProp 𝕄 := bigSep (Finset.Ico 60 g) fun i => iprop(∃ f, recvPts (F := F) c (slotOf i) f)

/-- After hop `g` the slot received into is handed to the previous device with the credit for hop `g + 2`, or kept. -/
theorem credit_or_keep (c : Dev nD) (g : ℕ) :
    iprop((∃ f, recvPts c (slotOf g) f) ∗ reached ER (recvCell c (slotOf g)) (g / 2 + 1) ∗ kept c g)
      ⊢ (iprop(creditPay (prv c) (g + 2) ∗ kept c (g + 1)) : sProp 𝕄) := by
  unfold creditPay kept
  by_cases h : g + 2 < 62
  · rw [if_pos h, nxt_prv, slotOf_two, show (g + 2) / 2 = g / 2 + 1 by omega, Finset.Ico_eq_empty_of_le (show g ≤ 60 by omega),
      Finset.Ico_eq_empty_of_le (show g + 1 ≤ 60 by omega)]
    iintro ⟨H1, H2, H3⟩
    isplitl [H1 H2]
    · isplitl [H1] <;> iassumption
    · iexact H3
  · rw [if_neg h, ← Finset.insert_Ico_right_eq_Ico_add_one (show 60 ≤ g by omega)]
    iintro ⟨H1, -, H3⟩
    isplitr [H1 H3]; · iempintro
    have e : bigSep (insert g (Finset.Ico 60 g)) (fun i => iprop(∃ f, recvPts (F := F) c (slotOf i) f))
        = iprop((∃ f, recvPts (F := F) c (slotOf g) f) ∗ bigSep (Finset.Ico 60 g) fun i => iprop(∃ f, recvPts (F := F) c (slotOf i) f)) :=
      BI.bigSep_insert Finset.right_notMem_Ico
    iapply (Entails.of_eq e.symm)
    isplitl [H1] <;> iassumption

/-! ## The schedule at a hop -/

theorem payload_credit (c : Dev nD) (g : ℕ) (d : Bool) :
    (ringRd snt).payload (creditCell c (slotOf g)) (g / 2) d = creditPay c g := by
  refine (payload_k snt c (.credit (slotOf g)) (g / 2) d).trans ?_
  show creditPay c (2 * (g / 2) + (slotOf g).val) = _
  rw [hop_eq]
theorem payload_recv (c : Dev nD) (g : ℕ) (d : Bool) :
    (ringRd snt).payload (recvCell c (slotOf g)) (g / 2) d = recvPay snt c g := by
  refine (payload_k snt c (.recv (slotOf g)) (g / 2) d).trans ?_
  show recvPay snt c (2 * (g / 2) + (slotOf g).val) = _
  rw [hop_eq]
theorem payload_send (c : Dev nD) (s : Fin 2) (r : ℕ) (d : Bool) : (ringRd snt).payload (sendCell c s) r d = sendPay c s :=
  payload_k snt c (.send s) r d

theorem rest_credit (c : Dev nD) (g : ℕ) (h : g < 64) :
    bigSep ((ringRd snt).duties (creditCell c (slotOf g)) (g / 2) \ ∅) (fun d => (ringRd snt).payload (creditCell c (slotOf g)) (g / 2) d)
      = creditPay c g :=
  (rest_one snt c (.credit (slotOf g)) (g / 2) (duties_credit _ _ (by omega))).trans
    ((payload_k snt c (.credit (slotOf g)) (g / 2) false).symm.trans (payload_credit snt c g false))
theorem rest_recv (c : Dev nD) (g : ℕ) (h : g < 62) :
    bigSep ((ringRd snt).duties (recvCell c (slotOf g)) (g / 2) \ ∅) (fun d => (ringRd snt).payload (recvCell c (slotOf g)) (g / 2) d)
      = recvPay snt c g :=
  (rest_one snt c (.recv (slotOf g)) (g / 2) (duties_recv _ _ (by omega))).trans
    ((payload_k snt c (.recv (slotOf g)) (g / 2) false).symm.trans (payload_recv snt c g false))
theorem rest_send (c : Dev nD) (s : Fin 2) (r : ℕ) (h : r < 31) :
    bigSep ((ringRd snt).duties (sendCell c s) r \ ∅) (fun d => (ringRd snt).payload (sendCell c s) r d) = sendPay c s :=
  rest_one snt c (.send s) r (duties_send _ _ h)

theorem mem_duties (c : Dev nD) (k : Role) (r : ℕ) (h : k.duties r = {false}) : false ∈ (ringRd snt).duties (kcell (c, k)) r := by
  rw [duties_k, h]; exact Finset.mem_singleton_self _

/-! ## The slots -/

theorem sendSlot_set (s : Fin 2) : (sendSlot s).view.set = (sM.access (slotRect s)).set := View.set_reshape ..
theorem recvSlot_set (s : Fin 2) : (recvSlot s).view.set = (rM.access (slotRect s)).set := View.set_reshape ..

/-- After a transfer from a send slot just stored, the receive slot reads the value stored. -/
theorem recvRead_transfer (s : Fin 2) (fd : (cc0_scratch1 : Ref sig .tc).ty.Contents (Elt F)) (fs : (cc0_scratch0 : Ref sig .tc).ty.Contents (Elt F))
    (w : Vec F S1x128x2048 .bf16) :
    recvRead s ((recvSlot s).view.write (Elt F) fd ((sendSlot s).view.read (Elt F) ((sM.access (slotRect s)).write (Elt F) fs w Finset.univ)) Finset.univ) = w :=
  (View.readAt_rect ..).trans (read_transfer (rM.view.slice (slotRect s)) (sM.view.slice (slotRect s)) _ fd fs w)

theorem creditPay_lt (c : Dev nD) {g : ℕ} (hg : g < 62) :
    (creditPay c g : sProp 𝕄) = iprop((∃ f, recvPts (nxt c) (slotOf g) f) ∗ reached ER (recvCell (nxt c) (slotOf g)) (g / 2)) := if_pos hg

theorem sendPts_eq (c : Dev nD) (s : Fin 2) (f : Buf (Elt F) ((sendSlot s).view.loc (c : Thread nD τ))) :
    (sendPts c s f : sProp 𝕄) = (sM.view.loc (c : Thread nD τ) ↦[(sM.access (slotRect s)).set]{fullShare} f) := by
  unfold sendPts; rw [sendSlot_set]
theorem recvPts_eq (c : Dev nD) (s : Fin 2) (f : Buf (Elt F) ((recvSlot s).view.loc (c : Thread nD τ))) :
    (recvPts c s f : sProp 𝕄) = (rM.view.loc (c : Thread nD τ) ↦[(rM.access (slotRect s)).set]{fullShare} f) := by
  unfold recvPts; rw [recvSlot_set]

/-- A load of a slot touches that slot only. -/
theorem slot_load (s : Fin 2) : sM.view.setOn (slotRect s).toLoadRect.set ⊆ (sM.access (slotRect s)).set := le_of_eq (View.set_slice ..).symm
theorem slot_load' (s : Fin 2) : rM.view.setOn (slotRect s).toLoadRect.set ⊆ (rM.access (slotRect s)).set := le_of_eq (View.set_slice ..).symm

/-- A send slot, back from a transfer, is what the send end's round hands over. -/
theorem sent_pay (c : Dev nD) (s : Fin 2) (r : ℕ) (f : Buf (Elt F) ((sendSlot s).view.loc (c : Thread nD τ))) :
    ((sendSlot s).view.loc (c : Thread nD τ) ↦[(sendSlot s).view.set]{fullShare} f) ⊢ (ringRd snt).payload (sendCell c s) r false := by
  rw [payload_send]
  unfold sendPay sendPts
  iintro H
  iexists f
  iexact H

/-- The next device's receive slot written from the send slot just stored, and the credit cell's progress, are what the
    landing's round hands over. -/
theorem landed_pay (c : Dev nD) (g : ℕ) (fd : Buf (Elt F) ((recvSlot (slotOf g)).view.loc (nxt c : Thread nD τ)))
    (fs : Buf (Elt F) ((sendSlot (slotOf g)).view.loc (c : Thread nD τ))) :
    iprop(((recvSlot (slotOf g)).view.loc (nxt c : Thread nD τ) ↦[(recvSlot (slotOf g)).view.set]{fullShare}
        ((recvSlot (slotOf g)).view.write (Elt F) fd
          ((sendSlot (slotOf g)).view.read (Elt F) ((sM.access (slotRect (slotOf g))).write (Elt F) fs (snt g c) Finset.univ)) Finset.univ))
      ∗ reached ER (creditCell c (slotOf g)) (g / 2 + 1)) ⊢ (ringRd snt).payload (recvCell (nxt c) (slotOf g)) (g / 2) false := by
  rw [payload_recv]
  unfold recvPay recvPts
  rw [prv_nxt]
  iintro ⟨H, Hr⟩
  isplitl [H]
  · iexists _
    isplitr
    · ipureintro
      exact recvRead_transfer (slotOf g) fd fs (snt g c)
    · iexact H
  · iexact Hr

/-! ## The hop -/

/-- What the two phases share of a hop: wait for the credit; load the chunk to send and store it, cast down, in the send
    slot; transfer the slot to the next device; wait for both ends. The device ends up with its send slot back and the
    receive slot holding what the previous device sent. -/
theorem hop_start (c n : Dev nD) (hn : n = nxt c) (g : ℕ) (hg : g < 62) (f : Vec F S4096x2048 .f32)
    (hsnt : k0_pay2 (takeRows (sendRow g c) (sendRow_le g c) f) = snt g c) (W : Waits sig ℕ)
    {o3 : Fin 1 → ℕ} (h3 : o3 = ![g % 2]) {i3 : ∀ a, o3 a + S1.size a ≤ S2.size a}
    {o4 : Fin 2 → ℕ} (h4 : o4 = ![sendRow g c, 0]) {i4 : ∀ a, o4 a + S128x2048.size a ≤ S4096x2048.size a}
    {o5 : Fin 3 → ℕ} (h5 : o5 = ![g % 2, 0, 0]) {i5 : ∀ a, o5 a + S1x128x2048.size a ≤ S2x128x2048.size a}
    {o6 : Fin 3 → ℕ} (h6 : o6 = ![g % 2, 0, 0]) {i6 : ∀ a, o6 a + S1x128x2048.size a ≤ S2x128x2048.size a}
    {q1 q2 q3 q4 q5 q6 q7 q8 q9 q10 q11 q12 q13 q14}
    {kk : PUnit → Prog (TpuEff nD τ sig (Elt F) Λ₀ .tc) Unit} {Q : Unit → sProp 𝕄} :
    iprop(records snt K ∗ levAts L lv ∗ hopToks c g ∗ owes (c : Thread nD τ) (owedAt c g (g + 2)) W ∗ slotSt c (g / 2) (slotOf g) ∗ oPts c f)
      ⊢ iprop(((∃ W', owes (c : Thread nD τ) (owedAt c (g + 1) (g + 2)) W' ∗ slotSt c (g / 2 + 1) (slotOf g) ∗ oPts c f
            ∗ dutyTok ER (creditCell (prv c) (slotOf g)) (g / 2 + 1) false ∗ recvPay snt c g ∗ reached ER (recvCell c (slotOf g)) (g / 2 + 1))
          -∗ wp frame (wpE (defs₀ (F := F)) 𝒱₀ (c : Thread nD τ) none) Set.univ (kk ⟨⟩) Q)
        -∗ wp frame (wpE (defs₀ (F := F)) 𝒱₀ (c : Thread nD τ) none) Set.univ
          (.op (.semWait (((cc0_scratch4.slice (Rect.unit (s := S2) o3 S1.size i3)).squeeze S_ squeezes_S1_S_ : Sems sig S_).sem) (1#32).toInt) fun _ =>
           .op (.load oM (Rect.unit (s := S4096x2048) o4 S128x2048.size i4).toLoadRect q1) fun v =>
           .op (.load sM (Rect.unit (s := S2x128x2048) o5 S1x128x2048.size i5).toLoadRect q2) fun _ =>
           .op (.store sM (Rect.unit (s := S2x128x2048) o5 S1x128x2048.size i5) (k0_pay2 v) Finset.univ q3 q4) fun _ =>
           .op (.enqueueDma ((sM.slice (Rect.unit (s := S2x128x2048) o6 S1x128x2048.size i6) q5).squeeze S128x2048 squeezes_S1x128x2048_S128x2048)
              (.remote (Dev.tc n) ((rM.slice (Rect.unit (s := S2x128x2048) o6 S1x128x2048.size i6) q6).squeeze S128x2048 squeezes_S1x128x2048_S128x2048)
                (.dma ((cc0_scratch2.slice (Rect.unit (s := S2) o3 S1.size i3)).squeeze S_ squeezes_S1_S_ : DmaSems sig S_).sem) q7)
              (.dma ((cc0_scratch3.slice (Rect.unit (s := S2) o3 S1.size i3)).squeeze S_ squeezes_S1_S_ : DmaSems sig S_).sem) q8 q9 q10) fun _ =>
           .op (.waitDma2 ((cc0_scratch2.slice (Rect.unit (s := S2) o3 S1.size i3)).squeeze S_ squeezes_S1_S_ : DmaSems sig S_).sem
              ((rM.slice (Rect.unit (s := S2x128x2048) o6 S1x128x2048.size i6) q6).squeeze S128x2048 squeezes_S1x128x2048_S128x2048)
              ((sM.slice (Rect.unit (s := S2x128x2048) o6 S1x128x2048.size i6) q5).squeeze S128x2048 squeezes_S1x128x2048_S128x2048) q11 q12) fun _ =>
           .op (.waitDma2 ((cc0_scratch3.slice (Rect.unit (s := S2) o3 S1.size i3)).squeeze S_ squeezes_S1_S_ : DmaSems sig S_).sem
              ((sM.slice (Rect.unit (s := S2x128x2048) o6 S1x128x2048.size i6) q5).squeeze S128x2048 squeezes_S1x128x2048_S128x2048)
              ((rM.slice (Rect.unit (s := S2x128x2048) o6 S1x128x2048.size i6) q6).squeeze S128x2048 squeezes_S1x128x2048_S128x2048) q13 q14) kk) Q) := by
  subst hn h3 h4 h5 h6
  unfold hopToks slotSt
  iintro ⟨#HR, #Hlev, ⟨HtR, HtS, HtC, HcC, HcR⟩, HO, ⟨HaC, HaR, HaS, #HrS, ⟨%fs, Hs⟩⟩, Hout⟩ Hk
  -- the credit: the next device's slot
  iapply (Rounds.wp_wait_rest_token 𝒱₀ ER (ringRd snt) (c : Thread nD τ) none (κ := K (c, .credit (slotOf g)))
      (wpE_semWait_eq 𝒱₀ (c : Thread nD τ) none Set.univ) (Set.mem_univ _) g (O := owedAt c g (g + 2)) (W := W) (R := g / 2) (m := 0) (T := ∅)
      (by rw [expect_one snt c (.credit (slotOf g)) (g / 2) (duties_credit _ _ (by omega))]; rfl)) $$ [HcC HO HaC]
  · isplitr; · iapply (inv_of snt K (c, .credit (slotOf g))); iexact HR
    isplitl [HcC]; · iexact HcC
    isplitl [HO]; · iexact HO
    isplitr; · iapply (mayWait_credit c g g (g + 2) (by omega) (by omega) (by omega)); iexact Hlev
    iexact HaC
  iintro ⟨HO, HaC, #HrC, Hpay⟩
  ihave Hp := (Entails.of_eq ((rest_credit snt c g (by omega)).trans (creditPay_lt c hg))) $$ Hpay
  icases Hp with ⟨⟨%fn, Hn⟩, #HrN⟩
  -- the chunk to send, into the send slot
  iapply (wp_load 𝒱₀ (c : Thread nD τ) none Set.univ (m := oM) (Finset.subset_univ _)) $$ Hout; iintro Hout
  rw [load_o f (sendRow g c) (sendRow_le g c) rfl i4, hsnt]
  ihave Hs := (Entails.of_eq (sendPts_eq c (slotOf g) fs)) $$ Hs
  iapply (wp_load 𝒱₀ (c : Thread nD τ) none Set.univ (m := sM) (r := (slotRect (slotOf g)).toLoadRect)
    (S := (sM.access (slotRect (slotOf g))).set) (f := fs) (slot_load _)) $$ Hs; iintro Hs
  iapply (wp_store 𝒱₀ (c : Thread nD τ) none Set.univ (m := sM) (r := slotRect (slotOf g)) (Mk := Finset.univ)
    (S := (sM.access (slotRect (slotOf g))).set) (f := fs) (View.setOn_subset_set ..)) $$ Hs; iintro Hs
  ihave Hs := (Entails.of_eq (sendPts_eq c (slotOf g) _).symm) $$ Hs
  -- the transfer
  unfold sendPts recvPts
  iapply (Rounds.wp_send_pointsTo_with 𝒱₀ ER (ringRd snt) (c : Thread nD τ) none (c' := (nxt c : Thread nD τ))
      (src := sendSlot (slotOf g)) (dst := recvSlot (slotOf g)) (sS := .dma (sendS (slotOf g))) (sem := .dma (recvS (slotOf g)))
      (fs := (sM.access (slotRect (slotOf g))).write (Elt F) fs (snt g c) Finset.univ) (fd := fn)
      (F := reached ER (creditCell c (slotOf g)) (g / 2 + 1)) (r₁ := g / 2) (r₂ := g / 2) (d₁ := false) (d₂ := false)
      (κ₁ := K (c, .send (slotOf g))) (κ₂ := K (nxt c, .recv (slotOf g)))
      (mem_duties snt c (.send (slotOf g)) (g / 2) (duties_send _ _ (by omega)))
      (mem_duties snt (nxt c) (.recv (slotOf g)) (g / 2) (duties_recv _ _ (by omega))) g 0 N rfl
      (amount_k snt c (.send (slotOf g)) (g / 2) false) (amount_k snt (nxt c) (.recv (slotOf g)) (g / 2) false)
      (owedAt c (g + 1) (g + 2)) (owedAt_send c hg) (W := insert (SemLoc.reg (creditS (slotOf g)), g) W)
      (sent_pay snt c (slotOf g) (g / 2) _) (landed_pay snt c g fn fs)) $$ [Hs Hn HO HtS HtR]
  · isplitr; · iapply (inv_of snt K (c, .send (slotOf g))); iexact HR
    isplitr; · iapply (inv_of snt K (nxt c, .recv (slotOf g))); iexact HR
    isplitl [Hs]; · iexact Hs
    isplitl [Hn]
    · isplitl [Hn]; · iexact Hn
      iexact HrC
    isplitl [HO]; · iexact HO
    isplitl [HtS]; · iexact HtS
    isplitr; · iexact HrS
    isplitl [HtR]; · iexact HtR
    iexact HrN
  iintro ⟨HcS, HO⟩
  -- the send end: the send slot back
  iapply (Rounds.wp_wait_rest_token 𝒱₀ ER (ringRd snt) (c : Thread nD τ) none (κ := K (c, .send (slotOf g)))
      (wpE_waitDma2_eq 𝒱₀ (c : Thread nD τ) none Set.univ) (Set.mem_univ _) 0 (O := owedAt c (g + 1) (g + 2))
      (W := insert (SemLoc.reg (creditS (slotOf g)), g) W) (R := g / 2) (m := 0) (T := ∅)
      (by rw [expect_one snt c (.send (slotOf g)) (g / 2) (duties_send _ _ (by omega))]; exact Nat.zero_add N)) $$ [HcS HO HaS]
  · isplitr; · iapply (inv_of snt K (c, .send (slotOf g))); iexact HR
    isplitl [HcS]; · iexact HcS
    isplitl [HO]; · iexact HO
    isplitr; · iapply (mayWait_send c (slotOf g) (g + 1) (g + 2)); iexact Hlev
    iexact HaS
  iintro ⟨HO, HaS, #HrS', Hpay⟩
  ihave Hs := (Entails.of_eq (rest_send snt c (slotOf g) (g / 2) (by omega))) $$ Hpay
  -- the landing end: the receive slot, filled
  iapply (Rounds.wp_wait_rest_token 𝒱₀ ER (ringRd snt) (c : Thread nD τ) none (κ := K (c, .recv (slotOf g)))
      (wpE_waitDma2_eq 𝒱₀ (c : Thread nD τ) none Set.univ) (Set.mem_univ _) g (O := owedAt c (g + 1) (g + 2))
      (W := insert (SemLoc.dma (sendS (slotOf g)), 0) (insert (SemLoc.reg (creditS (slotOf g)), g) W)) (R := g / 2) (m := 0) (T := ∅)
      (by rw [expect_one snt c (.recv (slotOf g)) (g / 2) (duties_recv _ _ (by omega))]; exact Nat.zero_add N)) $$ [HcR HO HaR]
  · isplitr; · iapply (inv_of snt K (c, .recv (slotOf g))); iexact HR
    isplitl [HcR]; · iexact HcR
    isplitl [HO]; · iexact HO
    isplitr; · iapply (mayWait_recv c g (g + 1) (g + 2) (by omega) (by omega) (by omega)); iexact Hlev
    iexact HaR
  iintro ⟨HO, HaR, #HrR', Hpay⟩
  ihave Hr := (Entails.of_eq (rest_recv snt c g hg)) $$ Hpay
  iapply Hk
  iexists _
  isplitl [HO]; · iexact HO
  isplitl [HaC HaR HaS Hs]
  · isplitl [HaC]; · iexact HaC
    isplitl [HaR]; · iexact HaR
    isplitl [HaS]; · iexact HaS
    isplitr; · iexact HrS'
    unfold sendPay
    iexact Hs
  isplitl [Hout]; · iexact Hout
  isplitl [HtC]; · iexact HtC
  isplitl [Hr]; · iexact Hr
  iexact HrR'

end Cert.Proof

end
-- ==== Proof.Hops.lean ====
/-
  The two phases of hops: what a trip of either loop does with the chunk received, the credit it gives for the slot's next
  hop, and so the step from one hop's invariant to the next one's.
-/
module

public import proofs.«01_k».proof.Proof.Hop

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The chunk received -/

section Received
variable (c : Dev nD) (g : ℕ) (f : Vec F S4096x2048 .f32) (v : Vec F S1x128x2048 .bf16)
  (fr : Buf (Elt F) ((recvSlot (slotOf g)).view.loc (c : Thread nD τ)))

/-- First phase: the chunk received is added to the output's own. -/
theorem hop_add (hr : recvRead (slotOf g) fr = v)
    {o5 : Fin 3 → ℕ} (h5 : o5 = ![g % 2, 0, 0]) {i5 : ∀ a, o5 a + S1x128x2048.size a ≤ S2x128x2048.size a}
    {o7 : Fin 2 → ℕ} (h7 : o7 = ![recvRow g c, 0]) {i7 : ∀ a, o7 a + S128x2048.size a ≤ S4096x2048.size a}
    {q1 q2 q3 q4 q5} {kk : PUnit → Prog (TpuEff nD τ sig (Elt F) Λ₀ .tc) Unit} {Q : Unit → sProp 𝕄} :
    iprop(oPts c f ∗ recvPts c (slotOf g) fr)
      ⊢ iprop(((oPts c (putRows (B := 128) (C := 2048) (recvRow g c) f (k0_pay3 (takeRows (recvRow g c) (recvRow_le g c) f) v)) ∗ recvPts c (slotOf g) fr)
          -∗ wp frame (wpE (defs₀ (F := F)) 𝒱₀ (c : Thread nD τ) none) Set.univ (kk ⟨⟩) Q)
        -∗ wp frame (wpE (defs₀ (F := F)) 𝒱₀ (c : Thread nD τ) none) Set.univ
          (.op (.load oM (Rect.unit (s := S4096x2048) o7 S128x2048.size i7).toLoadRect q1) fun a =>
           .op (.load rM (Rect.unit (s := S2x128x2048) o5 S1x128x2048.size i5).toLoadRect q2) fun b =>
           .op (.load oM (Rect.unit (s := S4096x2048) o7 S128x2048.size i7).toLoadRect q3) fun _ =>
           .op (.store oM (Rect.unit (s := S4096x2048) o7 S128x2048.size i7) (k0_pay3 a b) Finset.univ q4 q5) kk) Q) := by
  subst h5 h7 hr
  iintro ⟨Ho, Hr⟩ Hk
  ihave Hr := (Entails.of_eq (recvPts_eq c (slotOf g) fr)) $$ Hr
  iapply (wp_load 𝒱₀ (c : Thread nD τ) none Set.univ (m := oM) (Finset.subset_univ _)) $$ Ho; iintro Ho
  iapply (wp_load 𝒱₀ (c : Thread nD τ) none Set.univ (m := rM) (r := (slotRect (slotOf g)).toLoadRect)
    (S := (rM.access (slotRect (slotOf g))).set) (f := fr) (slot_load' _)) $$ Hr; iintro Hr
  iapply (wp_load 𝒱₀ (c : Thread nD τ) none Set.univ (m := oM) (Finset.subset_univ _)) $$ Ho; iintro Ho
  iapply (wp_store 𝒱₀ (c : Thread nD τ) none Set.univ (m := oM)
    (r := Rect.unit (s := S4096x2048) ![recvRow g c, 0] S128x2048.size i7) (Mk := Finset.univ) (Finset.subset_univ _)) $$ Ho; iintro Ho
  iapply Hk
  isplitl [Ho]
  · have e := (store_o (B := 128) f (recvRow g c) (recvRow_le g c) rfl i7
      (k0_pay3 (oM.view.readAt (Elt F) (Rect.unit (s := S4096x2048) ![recvRow g c, 0] S128x2048.size i7).toLoadRect f) (recvRead (slotOf g) fr))).trans
        (congrArg (fun y => putRows (B := 128) (C := 2048) (recvRow g c) f (k0_pay3 y (recvRead (slotOf g) fr)))
          (load_o (B := 128) f (recvRow g c) (recvRow_le g c) rfl i7))
    rw [← e]
    iexact Ho
  · iapply (Entails.of_eq (recvPts_eq c (slotOf g) fr).symm)
    iexact Hr

/-- Second phase: the chunk received is copied to the output. -/
theorem hop_copy (hr : recvRead (slotOf g) fr = v)
    {o5 : Fin 3 → ℕ} (h5 : o5 = ![g % 2, 0, 0]) {i5 : ∀ a, o5 a + S1x128x2048.size a ≤ S2x128x2048.size a}
    {o7 : Fin 2 → ℕ} (h7 : o7 = ![recvRow g c, 0]) {i7 : ∀ a, o7 a + S128x2048.size a ≤ S4096x2048.size a}
    {q2 q3 q4 q5} {kk : PUnit → Prog (TpuEff nD τ sig (Elt F) Λ₀ .tc) Unit} {Q : Unit → sProp 𝕄} :
    iprop(oPts c f ∗ recvPts c (slotOf g) fr)
      ⊢ iprop(((oPts c (putRows (B := 128) (C := 2048) (recvRow g c) f (k0_pay5 v)) ∗ recvPts c (slotOf g) fr)
          -∗ wp frame (wpE (defs₀ (F := F)) 𝒱₀ (c : Thread nD τ) none) Set.univ (kk ⟨⟩) Q)
        -∗ wp frame (wpE (defs₀ (F := F)) 𝒱₀ (c : Thread nD τ) none) Set.univ
          (.op (.load rM (Rect.unit (s := S2x128x2048) o5 S1x128x2048.size i5).toLoadRect q2) fun b =>
           .op (.load oM (Rect.unit (s := S4096x2048) o7 S128x2048.size i7).toLoadRect q3) fun _ =>
           .op (.store oM (Rect.unit (s := S4096x2048) o7 S128x2048.size i7) (k0_pay5 b) Finset.univ q4 q5) kk) Q) := by
  subst h5 h7 hr
  iintro ⟨Ho, Hr⟩ Hk
  ihave Hr := (Entails.of_eq (recvPts_eq c (slotOf g) fr)) $$ Hr
  iapply (wp_load 𝒱₀ (c : Thread nD τ) none Set.univ (m := rM) (r := (slotRect (slotOf g)).toLoadRect)
    (S := (rM.access (slotRect (slotOf g))).set) (f := fr) (slot_load' _)) $$ Hr; iintro Hr
  iapply (wp_load 𝒱₀ (c : Thread nD τ) none Set.univ (m := oM) (Finset.subset_univ _)) $$ Ho; iintro Ho
  iapply (wp_store 𝒱₀ (c : Thread nD τ) none Set.univ (m := oM)
    (r := Rect.unit (s := S4096x2048) ![recvRow g c, 0] S128x2048.size i7) (Mk := Finset.univ) (Finset.subset_univ _)) $$ Ho; iintro Ho
  iapply Hk
  isplitl [Ho]
  · have e := store_o (B := 128) f (recvRow g c) (recvRow_le g c) rfl i7 (k0_pay5 (recvRead (slotOf g) fr))
    rw [← e]
    iexact Ho
  · iapply (Entails.of_eq (recvPts_eq c (slotOf g) fr).symm)
    iexact Hr

end Received

/-! ## The credit given -/

/-- The credit for hop `g + 2`, given to the previous device once hop `g` is over, with the slot it is to land in. -/
theorem hop_credit (snt : ℕ → Dev nD → Vec F S1x128x2048 .bf16) (K : Dev nD × Role → ℕ) (c n : Dev nD) (hn : n = prv c) (g : ℕ) (hg : g < 62)
    (W : Waits sig ℕ) {o3 : Fin 1 → ℕ} (h3 : o3 = ![g % 2]) {i3 : ∀ a, o3 a + S1.size a ≤ S2.size a}
    {kk : PUnit → Prog (TpuEff nD τ sig (Elt F) Λ₀ .tc) Unit} {Q : Unit → sProp 𝕄} :
    iprop(records snt K ∗ owes (c : Thread nD τ) (owedAt c (g + 1) (g + 2)) W ∗ dutyTok ER (creditCell (prv c) (slotOf g)) (g / 2 + 1) false
        ∗ reached ER (creditCell (prv c) (slotOf g)) (g / 2 + 1) ∗ (∃ f, recvPts c (slotOf g) f)
        ∗ reached ER (recvCell c (slotOf g)) (g / 2 + 1) ∗ kept c g)
      ⊢ iprop(((owes (c : Thread nD τ) (owedAt c (g + 1) (g + 3)) W ∗ kept c (g + 1))
          -∗ wp frame (wpE (defs₀ (F := F)) 𝒱₀ (c : Thread nD τ) none) Set.univ (kk ⟨⟩) Q)
        -∗ wp frame (wpE (defs₀ (F := F)) 𝒱₀ (c : Thread nD τ) none) Set.univ
          (.op (.semSignal ((n : Dev nD), Proc.tc) (((cc0_scratch4.slice (Rect.unit (s := S2) o3 S1.size i3)).squeeze S_ squeezes_S1_S_ : Sems sig S_).sem)
            (1#32).toInt) kk) Q) := by
  subst hn h3
  iintro ⟨#HR, HO, Ht, #HrC, Hr, #HrR, Hk'⟩ Hk
  ihave H := (credit_or_keep (F := F) c g) $$ [Hr Hk']
  · isplitl [Hr]; · iexact Hr
    isplitr; · iexact HrR
    iexact Hk'
  icases H with ⟨Hpay, Hkept⟩
  have hpay : (ringRd snt).payload (creditCell (prv c) (slotOf g)) (g / 2 + 1) false = creditPay (prv c) (g + 2) := by
    have := payload_credit snt (prv c) (g + 2) false
    rwa [slotOf_two, show (g + 2) / 2 = g / 2 + 1 by omega] at this
  have howe : owedAt c (g + 1) (g + 2) = owedAt c (g + 1) (g + 3) + tallyAt (creditCell (prv c) (slotOf g)) (g + 2) 1 := by
    rw [owedAt_credit c (show g + 2 < 64 by omega), slotOf_two]
  iapply (Rounds.wp_signal 𝒱₀ ER (ringRd snt) (c : Thread nD τ) none (dst := (prv c : Thread nD τ)) (κ := K (prv c, .credit (slotOf g)))
      (r := g / 2 + 1) (d := false) (mem_duties snt (prv c) (.credit (slotOf g)) (g / 2 + 1) (duties_credit _ _ (by omega)))
      ((amount_k snt (prv c) (.credit (slotOf g)) (g / 2 + 1) false).trans rfl) (g + 2) (owedAt c (g + 1) (g + 3)) howe) $$ [HO Ht Hpay]
  · isplitr; · iapply (inv_of snt K (prv c, .credit (slotOf g))); iexact HR
    isplitl [HO]; · iexact HO
    isplitl [Ht]; · iexact Ht
    isplitl [Hpay]
    · iapply (Entails.of_eq hpay.symm); iexact Hpay
    · iexact HrC
  iintro HO
  iapply Hk
  isplitl [HO]; · iexact HO
  iexact Hkept

/-! ## The steps -/

section Steps
variable (X : Dev nD → Vec F S4096x128 .bf16) (Wt : Dev nD → Vec F S128x2048 .bf16) (K : Dev nD × Role → ℕ) (c : Dev nD)

/-- What device `c` holds before hop `g`. -/
def hopInv (g : ℕ) : sProp 𝕄 :=
  iprop(records (snt X Wt) K ∗ levAts L lv ∗ (bigSep (Finset.Ico g 62) fun i => hopToks c i)
    ∗ (∃ W, owes (c : Thread nD τ) (owedAt c g (g + 2)) W) ∗ slots c g ∗ kept c g ∗ oPts c (st X Wt g c))

/-- A device's holdings before hop `g`, spelled out. -/
theorem hop_open (g : ℕ) : hopInv X Wt K c g
    ⊢ iprop(records (snt X Wt) K ∗ levAts L lv ∗ (bigSep (Finset.Ico g 62) fun i => hopToks c i)
        ∗ (∃ W, owes (c : Thread nD τ) (owedAt c g (g + 2)) W) ∗ slots c g ∗ kept c g ∗ oPts c (st X Wt g c)) := by
  unfold hopInv; exact BI.Entails.refl _

/-- The next hop's tokens, and those of the hops after it. -/
theorem toks_take {g : ℕ} (hg : g < 62) :
    (bigSep (Finset.Ico g 62) fun i => (hopToks c i : sProp 𝕄)) ⊢ iprop(hopToks c g ∗ bigSep (Finset.Ico (g + 1) 62) fun i => hopToks c i) := by
  rw [← Finset.insert_Ico_add_one_left_eq_Ico hg]
  exact Entails.of_eq (BI.bigSep_insert (by rw [Finset.mem_Ico]; omega))

/-- What is left of a hop's step once its transfer is over and its chunk is in the output. -/
theorem hop_close (g : ℕ) {W' : Waits sig ℕ} :
    iprop(records (snt X Wt) K ∗ levAts L lv ∗ (bigSep (Finset.Ico (g + 1) 62) fun i => hopToks c i)
      ∗ owes (c : Thread nD τ) (owedAt c (g + 1) (g + 3)) W' ∗ slots c (g + 1) ∗ kept c (g + 1) ∗ oPts c (st X Wt (g + 1) c))
      ⊢ hopInv X Wt K c (g + 1) := by
  unfold hopInv
  iintro ⟨HR, Hl, Ht, HO, Hs, Hk, Ho⟩
  isplitl [HR]; · iexact HR
  isplitl [Hl]; · iexact Hl
  isplitl [Ht]; · iexact Ht
  isplitl [HO]; · iexists W'; iexact HO
  isplitl [Hs]; · iexact Hs
  isplitl [Hk]; · iexact Hk
  iexact Ho

set_option maxHeartbeats 800000 in
/-- A trip of the first phase's loop is a hop. -/
theorem step2 (v2 v13 v24 : BitVec 32) (k : Fin k0_t2_loop.trips) (u : Unit) :
    hopInv X Wt K c k.val
      ⊢ wp frame (wpE (defs₀ (F := F)) 𝒱₀ (c : Thread nD τ) none) Set.univ (body2 c v2 v13 v24 k u)
          (fun _ => hopInv X Wt K c (k.val + 1) : Unit → sProp 𝕄) := by
  have hk : k.val < 31 := trips2 ▸ k.isLt
  unfold body2 k0_t2_body
  simp only [k0_part1_eq_skeleton, k0_part2_eq_skeleton]
  unfold k0_part1_skel k0_part2_skel
  simp only [semSignalWord, semWaitWord, Prog.lift, Prog.bind_op, Prog.bind_ret, Prog.pure_eq_ret]
  iintro H
  ihave H := (hop_open X Wt K c _) $$ H
  icases H with ⟨#HR, #Hlev, Ht, ⟨%W, HO⟩, Hs, Hkept, Ho⟩
  ihave Ht := (toks_take c (show k.val < 62 by omega)) $$ Ht
  icases Ht with ⟨Ht, Hts⟩
  ihave Hs := (slots_take c k.val) $$ Hs
  icases Hs with ⟨Hs, Hback⟩
  iapply (hop_start (snt X Wt) K c _ (dev5_eq c) k.val (by omega) (st X Wt k.val c) rfl W (k0_off3_eq k) (off4_eq c k) (k0_off5_eq k)
    (k0_off6_eq k)) $$ [Ht HO Hs Ho]
  · isplitr; · iexact HR
    isplitr; · iexact Hlev
    isplitl [Ht]; · iexact Ht
    isplitl [HO]; · iexact HO
    isplitl [Hs]; · iexact Hs
    iexact Ho
  iintro ⟨%W', HO, Hs, Ho, Htc, Hpay, #HrR⟩
  unfold recvPay
  icases Hpay with ⟨⟨%fr, %hr, Hr⟩, #HrC⟩
  iapply (hop_add c k.val (st X Wt k.val c) _ fr hr (k0_off5_eq k) (off7_eq c k)) $$ [Ho Hr]
  · isplitl [Ho] <;> iassumption
  iintro ⟨Ho, Hr⟩
  iapply (hop_credit (snt X Wt) K c _ (dev6_eq c) k.val (by omega) W' (k0_off3_eq k)) $$ [HO Htc Hr Hkept]
  · isplitr; · iexact HR
    isplitl [HO]; · iexact HO
    isplitl [Htc]; · iexact Htc
    isplitr; · iexact HrC
    isplitl [Hr]; · iexists fr; iexact Hr
    isplitr; · iexact HrR
    iexact Hkept
  iintro ⟨HO, Hkept⟩
  rw [wp_ret]; imodintro
  iapply (hop_close X Wt K c k.val (W' := W'))
  isplitr; · iexact HR
  isplitr; · iexact Hlev
  isplitl [Hts]; · iexact Hts
  isplitl [HO]; · iexact HO
  isplitl [Hs Hback]; · iapply Hback; iexact Hs
  isplitl [Hkept]; · iexact Hkept
  rw [st_succ, hopOut, if_pos hk]
  iexact Ho

set_option maxHeartbeats 800000 in
/-- A trip of the second phase's loop is a hop. -/
theorem step3 (v2 v13 v24 : BitVec 32) (k : Fin k0_t3_loop.trips) (u : Unit) :
    hopInv X Wt K c (31 + k.val)
      ⊢ wp frame (wpE (defs₀ (F := F)) 𝒱₀ (c : Thread nD τ) none) Set.univ (body3 c v2 v13 v24 k u)
          (fun _ => hopInv X Wt K c (31 + k.val + 1) : Unit → sProp 𝕄) := by
  have hk : k.val < 31 := trips3 ▸ k.isLt
  unfold body3 k0_t3_body
  simp only [k0_part3_eq_skeleton, k0_part4_eq_skeleton]
  unfold k0_part3_skel k0_part4_skel
  simp only [semSignalWord, semWaitWord, Prog.lift, Prog.bind_op, Prog.bind_ret, Prog.pure_eq_ret]
  iintro H
  ihave H := (hop_open X Wt K c _) $$ H
  icases H with ⟨#HR, #Hlev, Ht, ⟨%W, HO⟩, Hs, Hkept, Ho⟩
  ihave Ht := (toks_take c (show 31 + k.val < 62 by omega)) $$ Ht
  icases Ht with ⟨Ht, Hts⟩
  ihave Hs := (slots_take c (31 + k.val)) $$ Hs
  icases Hs with ⟨Hs, Hback⟩
  iapply (hop_start (snt X Wt) K c _ (dev7_eq c) (31 + k.val) (by omega) (st X Wt (31 + k.val) c) rfl W (off8_eq k) (off9_eq c k) (off10_eq k)
    (off11_eq k)) $$ [Ht HO Hs Ho]
  · isplitr; · iexact HR
    isplitr; · iexact Hlev
    isplitl [Ht]; · iexact Ht
    isplitl [HO]; · iexact HO
    isplitl [Hs]; · iexact Hs
    iexact Ho
  iintro ⟨%W', HO, Hs, Ho, Htc, Hpay, #HrR⟩
  unfold recvPay
  icases Hpay with ⟨⟨%fr, %hr, Hr⟩, #HrC⟩
  iapply (hop_copy c (31 + k.val) (st X Wt (31 + k.val) c) _ fr hr (off10_eq k) (off12_eq c k)) $$ [Ho Hr]
  · isplitl [Ho] <;> iassumption
  iintro ⟨Ho, Hr⟩
  iapply (hop_credit (snt X Wt) K c _ (dev8_eq c) (31 + k.val) (by omega) W' (off8_eq k)) $$ [HO Htc Hr Hkept]
  · isplitr; · iexact HR
    isplitl [HO]; · iexact HO
    isplitl [Htc]; · iexact Htc
    isplitr; · iexact HrC
    isplitl [Hr]; · iexists fr; iexact Hr
    isplitr; · iexact HrR
    iexact Hkept
  iintro ⟨HO, Hkept⟩
  rw [wp_ret]; imodintro
  iapply (hop_close X Wt K c (31 + k.val) (W' := W'))
  isplitr; · iexact HR
  isplitr; · iexact Hlev
  isplitl [Hts]; · iexact Hts
  isplitl [HO]; · iexact HO
  isplitl [Hs Hback]; · iapply Hback; iexact Hs
  isplitl [Hkept]; · iexact Hkept
  rw [st_succ, hopOut, if_neg (show ¬ 31 + k.val < 31 by omega)]
  iexact Ho

end Steps

end Cert.Proof

end
-- ==== Proof.Slots.lean ====
/-
  The two-slot buffers: held whole before the kernel and after it, slot by slot in between. And the first and the last
  credits, outside the loops.
-/
module

public import proofs.«01_k».proof.Proof.Hops
public import Idealize.ShloMosaic.Lib.Ring

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## A two-slot buffer -/

theorem slot_disj (b b' : Fin 2) (h : b ≠ b') : Disjoint (slotRect b).set (slotRect b').set := by
  refine Rect.unit_disjoint (s := S2x128x2048) 0 ?_
  show b.val + 1 ≤ b'.val ∨ b'.val + 1 ≤ b.val
  have : b.val ≠ b'.val := fun e => h (Fin.ext e)
  omega

/-- Every element of a two-slot buffer is in one of its slots. -/
theorem slot_cover : Finset.univ.biUnion (fun s : Fin 2 => (slotRect s).set) = Finset.univ := by
  ext i
  refine ⟨fun _ => Finset.mem_univ _, fun _ => Finset.mem_biUnion.mpr ⟨⟨(i 0).val, (i 0).isLt⟩, Finset.mem_univ _, ?_⟩⟩
  refine Rect.mem_set_unit.mpr fun a => ?_
  have h0 : (i 0).val < 2 := (i 0).isLt
  have h1 : (i 1).val < 128 := (i 1).isLt
  have h2 : (i 2).val < 2048 := (i 2).isLt
  rcases a with ⟨_ | _ | _ | n, ha⟩
  · show (i 0).val ≤ (i 0).val ∧ (i 0).val < (i 0).val + 1
    omega
  · show 0 ≤ (i 1).val ∧ (i 1).val < 0 + 128
    omega
  · show 0 ≤ (i 2).val ∧ (i 2).val < 0 + 2048
    omega
  · exact absurd ha (by show ¬ n + 1 + 1 + 1 < 3; omega)

theorem sendSlot_set' (s : Fin 2) : (sendSlot s).view.set = (slotRect s).set := (sendSlot_set s).trans (View.set_slice_whole ..)
theorem recvSlot_set' (s : Fin 2) : (recvSlot s).view.set = (slotRect s).set := (recvSlot_set s).trans (View.set_slice_whole ..)

theorem slots_two (Φ : Fin 2 → sProp 𝕄) : bigSep Finset.univ Φ = iprop(Φ 0 ∗ Φ 1) := bigSep_univ_eq_bigSepL [0, 1] (by decide) (by decide) Φ

section Buffers
variable (c : Dev nD)

/-- The send buffer, whole, is its two slots; -/
theorem send_split (f : Buf (Elt F) ((c : Thread nD τ).loc cc0_scratch0)) :
    (((c : Thread nD τ).loc cc0_scratch0) ↦{fullShare} f : sProp 𝕄) ⊢ iprop((∃ f, sendPts c 0 f) ∗ ∃ f, sendPts c 1 f) := by
  refine (Entails.of_eq ((Ring.pointsTo_blocks (ℓ := (c : Thread nD τ).loc cc0_scratch0) (fun s : Fin 2 => (slotRect s).set) slot_disj slot_cover f).trans
    (slots_two (F := F) _))).trans ?_
  unfold sendPts
  rw [sendSlot_set', sendSlot_set']
  iintro ⟨H0, H1⟩
  isplitl [H0]
  · iexists f; iexact H0
  · iexists f; iexact H1

/-- and back. -/
theorem send_join (f₀ : Buf (Elt F) ((c : Thread nD τ).loc cc0_scratch0)) :
    iprop((∃ f, sendPts c 0 f) ∗ ∃ f, sendPts c 1 f) ⊢ (iprop(∃ f, ((c : Thread nD τ).loc cc0_scratch0) ↦{fullShare} f) : sProp 𝕄) := by
  refine BI.Entails.trans ?_ (Ring.pointsTo_blocks_join_exists (ℓ := (c : Thread nD τ).loc cc0_scratch0) (fun s : Fin 2 => (slotRect s).set) slot_disj slot_cover f₀)
  refine BI.Entails.trans ?_ (Entails.of_eq (slots_two (F := F) _).symm)
  unfold sendPts
  rw [sendSlot_set', sendSlot_set']
  exact BI.Entails.refl _

/-- The receive buffer likewise. -/
theorem recv_split (f : Buf (Elt F) ((c : Thread nD τ).loc cc0_scratch1)) :
    (((c : Thread nD τ).loc cc0_scratch1) ↦{fullShare} f : sProp 𝕄) ⊢ iprop((∃ f, recvPts c 0 f) ∗ ∃ f, recvPts c 1 f) := by
  refine (Entails.of_eq ((Ring.pointsTo_blocks (ℓ := (c : Thread nD τ).loc cc0_scratch1) (fun s : Fin 2 => (slotRect s).set) slot_disj slot_cover f).trans
    (slots_two (F := F) _))).trans ?_
  unfold recvPts
  rw [recvSlot_set', recvSlot_set']
  iintro ⟨H0, H1⟩
  isplitl [H0]
  · iexists f; iexact H0
  · iexists f; iexact H1

theorem recv_join (f₀ : Buf (Elt F) ((c : Thread nD τ).loc cc0_scratch1)) :
    iprop((∃ f, recvPts c 0 f) ∗ ∃ f, recvPts c 1 f) ⊢ (iprop(∃ f, ((c : Thread nD τ).loc cc0_scratch1) ↦{fullShare} f) : sProp 𝕄) := by
  refine BI.Entails.trans ?_ (Ring.pointsTo_blocks_join_exists (ℓ := (c : Thread nD τ).loc cc0_scratch1) (fun s : Fin 2 => (slotRect s).set) slot_disj slot_cover f₀)
  refine BI.Entails.trans ?_ (Entails.of_eq (slots_two (F := F) _).symm)
  unfold recvPts
  rw [recvSlot_set', recvSlot_set']
  exact BI.Entails.refl _

/-- No hop has left a receive slot with the device at the start; -/
theorem kept_zero : (iprop(emp) : sProp 𝕄) ⊢ kept c 0 := by
  unfold kept
  rw [Finset.Ico_eq_empty_of_le (by decide), bigSep_empty]
  exact BI.Entails.refl _

/-- at the end both are with it. -/
theorem kept_end : (kept c 62 : sProp 𝕄) ⊢ iprop((∃ f, recvPts c 0 f) ∗ ∃ f, recvPts c 1 f) := by
  unfold kept
  rw [bigSep_eq_bigSepL_of_eq [60, 61] (by decide) (by decide)]
  exact BI.Entails.refl _

end Buffers

/-! ## The first and the last credits -/

section Credits
variable (snt : ℕ → Dev nD → Vec F S1x128x2048 .bf16) (K : Dev nD × Role → ℕ) (c : Dev nD)

/-- The credit for either of the first two hops, given to the previous device with the slot it is to land in. -/
theorem first_credit (n : Dev nD) (hn : n = prv c) (g : ℕ) (hg : g < 2) (W : Waits sig ℕ) {o3 : Fin 1 → ℕ} (h3 : o3 = ![(slotOf g).val])
    {i3 : ∀ a, o3 a + S1.size a ≤ S2.size a} {α : Type} {kk : PUnit → Prog (TpuEff nD τ sig (Elt F) Λ₀ .tc) α} {Q : α → sProp 𝕄} :
    iprop(records snt K ∗ owes (c : Thread nD τ) (owedAt c 0 g) W ∗ dutyTok ER (creditCell (prv c) (slotOf g)) 0 false
        ∗ (∃ f, recvPts c (slotOf g) f))
      ⊢ iprop((owes (c : Thread nD τ) (owedAt c 0 (g + 1)) W
          -∗ wp frame (wpE (defs₀ (F := F)) 𝒱₀ (c : Thread nD τ) none) Set.univ (kk ⟨⟩) Q)
        -∗ wp frame (wpE (defs₀ (F := F)) 𝒱₀ (c : Thread nD τ) none) Set.univ
          (.op (.semSignal ((n : Dev nD), Proc.tc) (((cc0_scratch4.slice (Rect.unit (s := S2) o3 S1.size i3)).squeeze S_ squeezes_S1_S_ : Sems sig S_).sem)
            (1#32).toInt) kk) Q) := by
  subst hn h3
  have h0 : g / 2 = 0 := by omega
  have hpay : (ringRd snt).payload (creditCell (prv c) (slotOf g)) 0 false
      = iprop((∃ f, recvPts c (slotOf g) f) ∗ reached ER (recvCell c (slotOf g)) 0) := by
    have := (payload_credit snt (prv c) g false).trans (creditPay_lt (prv c) (by omega))
    rwa [h0, nxt_prv] at this
  iintro ⟨#HR, HO, Ht, Hr⟩ Hk
  iapply (Rounds.wp_signal 𝒱₀ ER (ringRd snt) (c : Thread nD τ) none (dst := (prv c : Thread nD τ)) (κ := K (prv c, .credit (slotOf g)))
      (r := 0) (d := false) (mem_duties snt (prv c) (.credit (slotOf g)) 0 (duties_credit _ _ (by omega)))
      ((amount_k snt (prv c) (.credit (slotOf g)) 0 false).trans rfl) g (owedAt c 0 (g + 1)) (owedAt_credit c (by omega))) $$ [HO Ht Hr]
  · isplitr; · iapply (inv_of snt K (prv c, .credit (slotOf g))); iexact HR
    isplitl [HO]; · iexact HO
    isplitl [Ht]; · iexact Ht
    isplitl [Hr]
    · iapply (Entails.of_eq hpay.symm)
      isplitl [Hr]; · iexact Hr
      iapply (reached_of snt K (c, .recv (slotOf g))); iexact HR
    · iapply (reached_of snt K (prv c, .credit (slotOf g))); iexact HR
  iexact Hk

/-- The wait for either of the two credits given at the end for hops that never come. -/
theorem last_credit (g : ℕ) (h1 : 62 ≤ g) (h2 : g < 64) (W : Waits sig ℕ) {o3 : Fin 1 → ℕ} (h3 : o3 = ![(slotOf g).val])
    {i3 : ∀ a, o3 a + S1.size a ≤ S2.size a} {α : Type} {kk : PUnit → Prog (TpuEff nD τ sig (Elt F) Λ₀ .tc) α} {Q : α → sProp 𝕄} :
    iprop(records snt K ∗ cred (tallyAt (creditCell c (slotOf g)) g 1) ∗ owes (c : Thread nD τ) 0 W
        ∗ atPos ER (creditCell c (slotOf g)) 31 ∅ 0)
      ⊢ iprop(((∃ W', owes (c : Thread nD τ) 0 W' ∗ atPos ER (creditCell c (slotOf g)) 32 ∅ 0)
          -∗ wp frame (wpE (defs₀ (F := F)) 𝒱₀ (c : Thread nD τ) none) Set.univ (kk ⟨⟩) Q)
        -∗ wp frame (wpE (defs₀ (F := F)) 𝒱₀ (c : Thread nD τ) none) Set.univ
          (.op (.semWait (((cc0_scratch4.slice (Rect.unit (s := S2) o3 S1.size i3)).squeeze S_ squeezes_S1_S_ : Sems sig S_).sem) (1#32).toInt) kk) Q) := by
  subst h3
  iintro ⟨#HR, Hc, HO, Ha⟩ Hk
  iapply (Rounds.wp_wait_rest_token 𝒱₀ ER (ringRd snt) (c : Thread nD τ) none (κ := K (c, .credit (slotOf g)))
      (wpE_semWait_eq 𝒱₀ (c : Thread nD τ) none Set.univ) (Set.mem_univ _) g (O := 0) (W := W) (R := 31) (m := 0) (T := ∅)
      (by rw [expect_one snt c (.credit (slotOf g)) 31 (duties_credit _ _ (by omega))]; rfl)) $$ [Hc HO Ha]
  · isplitr; · iapply (inv_of snt K (c, .credit (slotOf g))); iexact HR
    isplitl [Hc]; · iexact Hc
    isplitl [HO]; · iexact HO
    isplitr; · rw [MayWait_zero]; iempintro
    iexact Ha
  iintro ⟨HO, Ha, -, -⟩
  iapply Hk
  iexists _
  isplitl [HO]; · iexact HO
  iexact Ha

/-- A cell whose rounds are over is the device's own again, its counter at zero. -/
theorem close_cell (k : Role) : iprop(records snt K ∗ atPos ER (kcell (c, k)) k.last ∅ 0) ⊢ (|={Set.univ}=> semVal (kcell (c, k)) 0 : sProp 𝕄) := by
  iintro ⟨#HR, Ha⟩
  iapply (Rounds.cell_close ER (ringRd snt) (Set.mem_univ (K (c, k))) (fun h => h) (R := k.last) (duties_later snt c k))
  isplitr; · iapply (inv_of snt K (c, k)); iexact HR
  iexact Ha

end Credits

end Cert.Proof

end
-- ==== Proof.Body.lean ====
/-
  The kernel's body on one device, from its buffers and its share of the protocol to the result: the entry barrier, the first
  credits, the local product, the two phases of hops, the last credits, the largest element, the quantisation.
-/
module

public import proofs.«01_k».proof.Proof.Slots

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What a device starts with and ends with -/

section Shares
variable (c : Dev nD)

/-- For the entry barrier: the tokens of the two signals, the claim on the two units, the cell's position. -/
def barRes : sProp 𝕄 :=
  iprop(dutyTok ER (barCell (prv c)) 0 true ∗ dutyTok ER (barCell (nxt c)) 0 false ∗ cred (tallyAt (barCell c) 0 2)
    ∗ atPos ER (barCell c) 0 ∅ 0)

/-- For the hops: each one's tokens and claims, the first two credits' tokens, the last two credits' claims; -/
def hopRes : sProp 𝕄 :=
  iprop((bigSep (Finset.Ico 0 62) fun i => hopToks c i)
    ∗ (dutyTok ER (creditCell (prv c) 0) 0 false ∗ dutyTok ER (creditCell (prv c) 1) 0 false)
    ∗ (cred (tallyAt (creditCell c 0) 62 1) ∗ cred (tallyAt (creditCell c 1) 63 1)))

/-- and the six cells' positions. -/
def posRes : sProp 𝕄 :=
  iprop((atPos ER (creditCell c 0) 0 ∅ 0 ∗ atPos ER (creditCell c 1) 0 ∅ 0) ∗ (atPos ER (recvCell c 0) 0 ∅ 0 ∗ atPos ER (recvCell c 1) 0 ∅ 0)
    ∗ (atPos ER (sendCell c 0) 0 ∅ 0 ∗ atPos ER (sendCell c 1) 0 ∅ 0))

/-- The slots of both buffers. -/
def slotPts : sProp 𝕄 :=
  iprop(((∃ f, sendPts c 0 f) ∗ ∃ f, sendPts c 1 f) ∗ ((∃ f, recvPts c 0 f) ∗ ∃ f, recvPts c 1 f))

/-- The six scoped semaphores, their counters at zero. -/
def ownZero : sProp 𝕄 :=
  iprop((semVal (creditCell c 0) 0 ∗ semVal (creditCell c 1) 0) ∗ (semVal (recvCell c 0) 0 ∗ semVal (recvCell c 1) 0)
    ∗ (semVal (sendCell c 0) 0 ∗ semVal (sendCell c 1) 0))

end Shares

section Run
variable (X : Dev nD → Vec F S4096x128 .bf16) (Wt : Dev nD → Vec F S128x2048 .bf16) (K : Dev nD × Role → ℕ) (c : Dev nD)

abbrev part5 :=
  k0_part5 (F := F) xM (Memref.isWhole_whole _) wM (Memref.isWhole_whole _) oM (Memref.isWhole_whole _) sM (Memref.isWhole_whole _)
    rM (Memref.isWhole_whole _) cc0_scratch2 cc0_scratch3 cc0_scratch4
abbrev part6 (v2 v13 v24 : BitVec 32) :=
  k0_part6 (F := F) xM (Memref.isWhole_whole _) wM (Memref.isWhole_whole _) oM (Memref.isWhole_whole _) sM (Memref.isWhole_whole _)
    rM (Memref.isWhole_whole _) cc0_scratch2 cc0_scratch3 cc0_scratch4 c v2 v13 v24
abbrev theBody :=
  cc0_body (F := F) xM (Memref.isWhole_whole _) wM (Memref.isWhole_whole _) oM (Memref.isWhole_whole _) sM (Memref.isWhole_whole _)
    rM (Memref.isWhole_whole _) cc0_scratch2 cc0_scratch3 cc0_scratch4

/-- The entry barrier: a unit to either neighbour, then the wait for theirs. -/
theorem sound_part5 (W : Waits sig ℕ) :
    iprop(records (snt X Wt) K ∗ levAts L lv ∗ barRes c ∗ owes (c : Thread nD τ) (O₀ c) W)
      ⊢ wp frame (wpE (defs₀ (F := F)) 𝒱₀ (c : Thread nD τ) none) Set.univ (part5 (F := F))
          (fun r => iprop(⌜r.1 = c⌝ ∗ (∃ W', owes (c : Thread nD τ) (owedAt c 0 0) W') ∗ atPos ER (barCell c) 1 ∅ 0)) := by
  unfold part5
  simp only [k0_part5_eq_skeleton]
  unfold k0_part5_skel
  simp only [semSignalWord, semWaitWord, Prog.lift, Prog.bind_op, Prog.bind_ret, Prog.pure_eq_ret, wp_deviceId]
  unfold barRes
  iintro ⟨#HR, #Hlev, ⟨HtP, HtN, Hc, Ha⟩, HO⟩
  simp only [dev1_eq c, dev2_eq c]
  iapply (Rounds.wp_signal 𝒱₀ ER (ringRd (snt X Wt)) (c : Thread nD τ) none (dst := (prv c : Thread nD τ)) (κ := K (prv c, .bar))
      (r := 0) (d := true) (by rw [duties_k (snt X Wt) (prv c) .bar]; exact Finset.mem_univ _)
      ((amount_k (snt X Wt) (prv c) .bar 0 true).trans rfl) 0 (O₁ c) rfl) $$ [HO HtP]
  · isplitr; · iapply (inv_of (snt X Wt) K (prv c, .bar)); iexact HR
    isplitl [HO]; · iexact HO
    isplitl [HtP]; · iexact HtP
    isplitr; · rw [payload_k (snt X Wt) (prv c) .bar]; unfold Role.payload; iempintro
    iapply (reached_of (snt X Wt) K (prv c, .bar)); iexact HR
  iintro HO
  unfold O₁
  iapply (Rounds.wp_signal 𝒱₀ ER (ringRd (snt X Wt)) (c : Thread nD τ) none (dst := (nxt c : Thread nD τ)) (κ := K (nxt c, .bar))
      (r := 0) (d := false) (by rw [duties_k (snt X Wt) (nxt c) .bar]; exact Finset.mem_univ _)
      ((amount_k (snt X Wt) (nxt c) .bar 0 false).trans rfl) 0 (owedAt c 0 0) rfl) $$ [HO HtN]
  · isplitr; · iapply (inv_of (snt X Wt) K (nxt c, .bar)); iexact HR
    isplitl [HO]; · iexact HO
    isplitl [HtN]; · iexact HtN
    isplitr; · rw [payload_k (snt X Wt) (nxt c) .bar]; unfold Role.payload; iempintro
    iapply (reached_of (snt X Wt) K (nxt c, .bar)); iexact HR
  iintro HO
  iapply (Rounds.wp_wait_rest_token 𝒱₀ ER (ringRd (snt X Wt)) (c : Thread nD τ) none (κ := K (c, .bar))
      (wpE_semWait_eq 𝒱₀ (c : Thread nD τ) none Set.univ) (Set.mem_univ _) 0 (O := owedAt c 0 0) (W := W) (R := 0) (m := 0) (T := ∅)
      (by rw [expect_bar]; rfl)) $$ [Hc HO Ha]
  · isplitr; · iapply (inv_of (snt X Wt) K (c, .bar)); iexact HR
    isplitl [Hc]; · iexact Hc
    isplitl [HO]; · iexact HO
    isplitr; · iapply (mayWait_bar c); iexact Hlev
    iexact Ha
  iintro ⟨HO, Ha, -, -⟩
  rw [wp_ret]; imodintro
  isplitr; · ipureintro; rfl
  isplitl [HO]; · iexists _; iexact HO
  iexact Ha

/-- What a device holds on entering the hops. -/
theorem hops_begin (f : Vec F S4096x2048 .f32) (hf : f = st X Wt 0 c) :
    iprop(records (snt X Wt) K ∗ levAts L lv ∗ (bigSep (Finset.Ico 0 62) fun i => hopToks c i) ∗ posRes c
        ∗ ((∃ f, sendPts c 0 f) ∗ ∃ f, sendPts c 1 f) ∗ (∃ W, owes (c : Thread nD τ) (owedAt c 0 2) W) ∗ oPts c f)
      ⊢ hopInv X Wt K c 0 := by
  subst hf
  unfold hopInv slots slotSt posRes
  iintro ⟨#HR, Hl, Ht, ⟨⟨C0, C1⟩, ⟨R0, R1⟩, S0, S1⟩, ⟨B0, B1⟩, HO, Ho⟩
  isplitr; · iexact HR
  isplitl [Hl]; · iexact Hl
  isplitl [Ht]; · iexact Ht
  isplitl [HO]; · iexact HO
  isplitl [C0 C1 R0 R1 S0 S1 B0 B1]
  · isplitl [C0 R0 S0 B0]
    · isplitl [C0]; · iexact C0
      isplitl [R0]; · iexact R0
      isplitl [S0]; · iexact S0
      isplitr; · iapply (reached_of (snt X Wt) K (c, .send 0)); iexact HR
      iexact B0
    · isplitl [C1]; · iexact C1
      isplitl [R1]; · iexact R1
      isplitl [S1]; · iexact S1
      isplitr; · iapply (reached_of (snt X Wt) K (c, .send 1)); iexact HR
      iexact B1
  isplitr; · iapply (kept_zero (F := F) c); iempintro
  iexact Ho

/-- What a device holds once the hops are over. -/
theorem hops_end : hopInv X Wt K c 62
    ⊢ iprop((∃ W, owes (c : Thread nD τ) 0 W) ∗ slotPts c ∗ (atPos ER (creditCell c 0) 31 ∅ 0 ∗ atPos ER (creditCell c 1) 31 ∅ 0)
        ∗ (atPos ER (recvCell c 0) 31 ∅ 0 ∗ atPos ER (recvCell c 1) 31 ∅ 0) ∗ (atPos ER (sendCell c 0) 31 ∅ 0 ∗ atPos ER (sendCell c 1) 31 ∅ 0)
        ∗ oPts c (st X Wt 62 c)) := by
  unfold hopInv slots slotSt slotPts
  rw [owedAt_end c (Nat.le_refl 62) (Nat.le_refl 64)]
  iintro ⟨-, -, -, HO, ⟨⟨C0, R0, S0, -, B0⟩, C1, R1, S1, -, B1⟩, Hk, Ho⟩
  ihave Hk := (kept_end (F := F) c) $$ Hk
  isplitl [HO]; · iexact HO
  isplitl [B0 B1 Hk]
  · isplitl [B0 B1]
    · isplitl [B0]; · iexact B0
      iexact B1
    · iexact Hk
  isplitl [C0 C1]
  · isplitl [C0]; · iexact C0
    iexact C1
  isplitl [R0 R1]
  · isplitl [R0]; · iexact R0
    iexact R1
  isplitl [S0 S1]
  · isplitl [S0]; · iexact S0
    iexact S1
  iexact Ho

/-- A load of the whole second argument reads it. -/
theorem load_w (f : Vec F S128x2048 .bf16) :
    wM.view.readAt (Elt F) (Rect.unit (s := S128x2048) ![0, 0] S128x2048.size inb_S128x2048_S128x2048_0_0).toLoadRect f = f :=
  Memref.readAt_unit_zero (Elt F) cc0_stg1_0 (by decide) _ _

set_option maxHeartbeats 1000000 in
/-- From the first credits to the quantisation step. -/
theorem sound_part6 (v2 v13 v24 : BitVec 32) (f : Vec F S4096x2048 .f32) :
    iprop(records (snt X Wt) K ∗ levAts L lv ∗ hopRes c ∗ posRes c ∗ slotPts c ∗ (∃ W, owes (c : Thread nD τ) (owedAt c 0 0) W)
        ∗ xPts c (X c) ∗ wPts c (Wt c) ∗ oPts c f)
      ⊢ wp frame (wpE (defs₀ (F := F)) 𝒱₀ (c : Thread nD τ) none) Set.univ (part6 (F := F) c v2 v13 v24)
          (fun r => iprop(⌜r.1 = scaleOf (st X Wt 62 c)⌝ ∗ (∃ W, owes (c : Thread nD τ) 0 W) ∗ ownZero c ∗ slotPts c
            ∗ xPts c (X c) ∗ wPts c (Wt c) ∗ oPts c (st X Wt 62 c))) := by
  unfold part6
  simp only [k0_part6_eq_skeleton]
  unfold k0_part6_skel
  simp only [semSignalWord, semWaitWord, Prog.lift, Prog.bind_op, Prog.bind_ret, Prog.pure_eq_ret]
  unfold hopRes
  iintro ⟨#HR, #Hlev, ⟨Htoks, ⟨Ht0, Ht1⟩, Hc62, Hc63⟩, Hpos, Hslots, ⟨%W, HO⟩, Hx, Hw, Ho⟩
  unfold slotPts
  icases Hslots with ⟨Hsend, Hr0, Hr1⟩
  -- the first two credits
  iapply (first_credit (snt X Wt) K c _ (dev3_eq c) 0 (by decide) W (o3 := ![0]) rfl) $$ [HO Ht0 Hr0]
  · isplitr; · iexact HR
    isplitl [HO]; · iexact HO
    isplitl [Ht0]; · iexact Ht0
    iexact Hr0
  iintro HO
  iapply (first_credit (snt X Wt) K c _ (dev4_eq c) 1 (by decide) W (o3 := ![1]) rfl) $$ [HO Ht1 Hr1]
  · isplitr; · iexact HR
    isplitl [HO]; · iexact HO
    isplitl [Ht1]; · iexact Ht1
    iexact Hr1
  iintro HO
  -- the local product
  iapply (wp_load 𝒱₀ (c : Thread nD τ) none Set.univ (m := wM) (Finset.subset_univ _)) $$ Hw; iintro Hw
  rw [load_w]
  iapply (Scf.wp_for_bind _ _ _ k0_t1_loop.lb k0_t1_loop.ub k0_t1_loop.st k0_t1_ok () (body1 (F := F) c v2 v13 v24 (Wt c))
    (fun n _ => iprop(xPts c (X c) ∗ oPts c (upTo (C := 2048) n f (gemm (X c) (Wt c))))) (step1 c v2 v13 v24 (X c) (Wt c) f)) $$ [Hx Ho]
  · rw [upTo_zero]
    isplitl [Hx] <;> iassumption
  iintro %u1 H
  icases H with ⟨Hx, Ho⟩
  -- the two phases
  iapply (Scf.wp_for_bind _ _ _ k0_t2_loop.lb k0_t2_loop.ub k0_t2_loop.st k0_t2_ok () (body2 (F := F) c v2 v13 v24)
    (fun n _ => hopInv X Wt K c n) (step2 X Wt K c v2 v13 v24)) $$ [Htoks Hpos Hsend HO Ho]
  · iapply (hops_begin X Wt K c _ (show upTo (C := 2048) k0_t1_loop.trips f (gemm (X c) (Wt c)) = st X Wt 0 c by rw [trips1, upTo_all, st_zero]))
    isplitr; · iexact HR
    isplitr; · iexact Hlev
    isplitl [Htoks]; · iexact Htoks
    isplitl [Hpos]; · iexact Hpos
    isplitl [Hsend]; · iexact Hsend
    isplitl [HO]; · iexists W; iexact HO
    iexact Ho
  iintro %u2 H
  iapply (Scf.wp_for_bind _ _ _ k0_t3_loop.lb k0_t3_loop.ub k0_t3_loop.st k0_t3_ok () (body3 (F := F) c v2 v13 v24)
    (fun n _ => hopInv X Wt K c (31 + n)) (step3 X Wt K c v2 v13 v24)) $$ [H]
  · iapply (Entails.of_eq (show hopInv X Wt K c k0_t2_loop.trips = hopInv X Wt K c (31 + 0) by rw [trips2]))
    iexact H
  iintro %u3 H
  ihave H := ((Entails.of_eq (show hopInv X Wt K c (31 + k0_t3_loop.trips) = hopInv X Wt K c 62 by rw [trips3])).trans (hops_end X Wt K c)) $$ H
  icases H with ⟨⟨%W', HO⟩, Hslots, ⟨C0, C1⟩, ⟨R0, R1⟩, ⟨S0, S1⟩, Ho⟩
  -- the last two credits
  iapply (last_credit (snt X Wt) K c 62 (by decide) (by decide) W' (o3 := ![0]) rfl) $$ [Hc62 HO C0]
  · isplitr; · iexact HR
    isplitl [Hc62]; · iexact Hc62
    isplitl [HO]; · iexact HO
    iexact C0
  iintro ⟨%W₁, HO, C0⟩
  iapply (last_credit (snt X Wt) K c 63 (by decide) (by decide) W₁ (o3 := ![1]) rfl) $$ [Hc63 HO C1]
  · isplitr; · iexact HR
    isplitl [Hc63]; · iexact Hc63
    isplitl [HO]; · iexact HO
    iexact C1
  iintro ⟨%W₂, HO, C1⟩
  -- every cell but the barrier's is over
  imod (close_cell (snt X Wt) K c (.credit 0)) $$ [C0] with Z1
  · isplitr; · iexact HR
    iexact C0
  imod (close_cell (snt X Wt) K c (.credit 1)) $$ [C1] with Z2
  · isplitr; · iexact HR
    iexact C1
  imod (close_cell (snt X Wt) K c (.recv 0)) $$ [R0] with Z3
  · isplitr; · iexact HR
    iexact R0
  imod (close_cell (snt X Wt) K c (.recv 1)) $$ [R1] with Z4
  · isplitr; · iexact HR
    iexact R1
  imod (close_cell (snt X Wt) K c (.send 0)) $$ [S0] with Z5
  · isplitr; · iexact HR
    iexact S0
  imod (close_cell (snt X Wt) K c (.send 1)) $$ [S1] with Z6
  · isplitr; · iexact HR
    iexact S1
  -- the largest element
  iapply (Scf.wp_for_bind _ _ _ k0_t4_loop.lb k0_t4_loop.ub k0_t4_loop.st k0_t4_ok (Scalar.ofBits .f32 0x00000000#32 : F .f32)
    (body4 (F := F) c v2 v13 v24) (fun n a => iprop(⌜a = amaxTo (st X Wt 62 c) n⌝ ∗ oPts c (st X Wt 62 c))) (step4 c v2 v13 v24 (st X Wt 62 c))) $$ [Ho]
  · isplitr; · ipureintro; rfl
    iexact Ho
  iintro %a H
  icases H with ⟨%ha, Ho⟩
  rw [wp_ret]; imodintro
  isplitr
  · ipureintro
    show k0_pay8 a = scaleOf (st X Wt 62 c)
    rw [ha, show Scf.trips k0_t4_loop.lb k0_t4_loop.ub k0_t4_loop.st = 16 from trips4]; rfl
  isplitl [HO]; · iexists W₂; iexact HO
  isplitl [Z1 Z2 Z3 Z4 Z5 Z6]
  · unfold ownZero
    isplitl [Z1 Z2]
    · isplitl [Z1]; · iexact Z1
      iexact Z2
    isplitl [Z3 Z4]
    · isplitl [Z3]; · iexact Z3
      iexact Z4
    isplitl [Z5]; · iexact Z5
    iexact Z6
  isplitl [Hslots]; · unfold slotPts; iexact Hslots
  isplitl [Hx]; · iexact Hx
  isplitl [Hw]; · iexact Hw
  iexact Ho

/-- What a device holds at the start and at the end. -/
def runPre (f : Vec F S4096x2048 .f32) : sProp 𝕄 :=
  iprop(records (snt X Wt) K ∗ levAts L lv ∗ barRes c ∗ hopRes c ∗ posRes c ∗ slotPts c ∗ (∃ W, owes (c : Thread nD τ) (O₀ c) W)
    ∗ xPts c (X c) ∗ wPts c (Wt c) ∗ oPts c f)
def runPost : sProp 𝕄 :=
  iprop((∃ W, owes (c : Thread nD τ) 0 W) ∗ semVal (barCell c) 0 ∗ ownZero c ∗ slotPts c
    ∗ xPts c (X c) ∗ wPts c (Wt c) ∗ oPts c (result X Wt c))

/-- The body takes a device from the one to the other: it leaves the result in the output, its arguments unchanged, every
    counter at zero. -/
theorem sound_body (f : Vec F S4096x2048 .f32) :
    runPre X Wt K c f ⊢ wp frame (wpE (defs₀ (F := F)) 𝒱₀ (c : Thread nD τ) none) Set.univ (theBody (F := F)) (fun _ => runPost X Wt c) := by
  unfold theBody
  simp only [cc0_body_eq_skeleton]
  unfold cc0_body_skel runPre
  rw [wp_bind]
  iintro ⟨#HR, #Hlev, Hbar, Hhop, Hpos, Hslots, ⟨%W, HO⟩, Hx, Hw, Ho⟩
  iapply ((sound_part5 X Wt K c W).trans (wp_wand _ _ _)) $$ [Hbar HO]
  · isplitr; · iexact HR
    isplitr; · iexact Hlev
    isplitl [Hbar]; · iexact Hbar
    iexact HO
  iintro %r H
  rcases r with ⟨d, v2, v13, v24⟩
  icases H with ⟨%hd, HO, Ha⟩
  obtain rfl : d = c := hd
  rw [wp_bind]
  iapply ((sound_part6 X Wt K d v2 v13 v24 f).trans (wp_wand _ _ _)) $$ [Hhop Hpos Hslots HO Hx Hw Ho]
  · isplitr; · iexact HR
    isplitr; · iexact Hlev
    isplitl [Hhop]; · iexact Hhop
    isplitl [Hpos]; · iexact Hpos
    isplitl [Hslots]; · iexact Hslots
    isplitl [HO]; · iexact HO
    isplitl [Hx]; · iexact Hx
    isplitl [Hw]; · iexact Hw
    iexact Ho
  iintro %r H
  rcases r with ⟨s, v⟩
  icases H with ⟨%hs, HO, Hz, Hslots, Hx, Hw, Ho⟩
  obtain rfl : s = scaleOf (st X Wt 62 d) := hs
  imod (close_cell (snt X Wt) K d .bar) $$ [Ha] with Hzb
  · isplitr; · iexact HR
    iexact Ha
  iapply (Scf.wp_for_bind _ _ _ k0_t5_loop.lb k0_t5_loop.ub k0_t5_loop.st k0_t5_ok () (body5 (F := F) (scaleOf (st X Wt 62 d)))
    (fun n _ => oPts d (upTo (C := 2048) n (st X Wt 62 d) (quant (st X Wt 62 d)))) (step5 d (scaleOf (st X Wt 62 d)) (st X Wt 62 d))) $$ [Ho]
  · rw [upTo_zero]
    iexact Ho
  iintro %u Ho
  rw [show Scf.trips k0_t5_loop.lb k0_t5_loop.ub k0_t5_loop.st = 16 from trips5, upTo_all, Prog.pure_eq_ret, wp_ret]
  imodintro
  unfold runPost
  isplitl [HO]; · iexact HO
  isplitl [Hzb]; · iexact Hzb
  isplitl [Hz]; · iexact Hz
  isplitl [Hslots]; · iexact Hslots
  isplitl [Hx]; · iexact Hx
  isplitl [Hw]; · iexact Hw
  iexact Ho

end Run

end Cert.Proof

end
-- ==== Proof.Start.lean ====
/-
  The protocol's shares as the launch deals them: every cell with its duty tokens, its position and its invariant; then each
  device the tokens it pays with, and its claims on what the others owe it.
-/
module

public import proofs.«01_k».proof.Proof.Body
public import Idealize.ShloMosaic.Lib.Ring

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The cells and the tokens minted -/

/-- The six scoped semaphores. -/
abbrev osem : Fin 6 → SemLoc sig :=
  ![.reg (creditS 0), .reg (creditS 1), .dma (recvS 0), .dma (recvS 1), .dma (sendS 0), .dma (sendS 1)]

theorem ownSemFacts : Pipeline.OwnSemFacts cfg0.spec osem := by decide

/-- Every cell of every device. -/
def ringCells : Finset (GSem nD τ sig) := Finset.univ.map ⟨kcell, kcell_injective⟩

/-- The duties of one device's cells: its barrier's two; either credit cell's first; then by hop, its landing, its send, and
    the credit given at its end. -/
abbrev Duty := Bool ⊕ Fin 2 ⊕ Fin 62 ⊕ Fin 62 ⊕ Fin 62

/-- The cell's role, the round and the name of a duty. -/
def Duty.tok : Duty → Role × ℕ × Bool
  | .inl b => (.bar, 0, b)
  | .inr (.inl s) => (.credit s, 0, false)
  | .inr (.inr (.inl i)) => (.recv (slotOf i.val), i.val / 2, false)
  | .inr (.inr (.inr (.inl i))) => (.send (slotOf i.val), i.val / 2, false)
  | .inr (.inr (.inr (.inr i))) => (.credit (slotOf i.val), i.val / 2 + 1, false)

/-- A hop is known by its slot and its round. -/
theorem hop_inj {i j : Fin 62} (h1 : slotOf i.val = slotOf j.val) (h2 : i.val / 2 = j.val / 2) : i = j := by
  have h := hop_eq i.val
  rw [h1, h2, hop_eq] at h
  exact Fin.ext h.symm

theorem Duty.tok_injective : Function.Injective Duty.tok := by
  rintro (a | a | a | a | a) (b | b | b | b | b) h <;> have h₀ := h <;>
    simp only [Duty.tok, Prod.mk.injEq, Role.credit.injEq, Role.recv.injEq, Role.send.injEq, reduceCtorEq, false_and, true_and, and_true] at h
  · exact congrArg _ h
  · exact congrArg _ (congrArg _ h)
  · exact (Nat.succ_ne_zero _ (congrArg (fun x : Role × ℕ × Bool => x.2.1) h₀).symm).elim
  · exact congrArg _ (congrArg _ (congrArg _ (hop_inj h.1 h.2)))
  · exact congrArg _ (congrArg _ (congrArg _ (congrArg _ (hop_inj h.1 h.2))))
  · exact (Nat.succ_ne_zero _ (congrArg (fun x : Role × ℕ × Bool => x.2.1) h₀)).elim
  · exact congrArg _ (congrArg _ (congrArg _ (congrArg _ (hop_inj h.1 (by have := h.2; omega)))))

/-- A duty of a device's cells. -/
def tokOf (cj : Dev nD × Duty) : GSem nD τ sig × ℕ × Bool := (kcell (cj.1, cj.2.tok.1), cj.2.tok.2)

theorem tokOf_injective : Function.Injective tokOf := by
  rintro ⟨c, j⟩ ⟨c', j'⟩ h
  have h1 : (c, j.tok.1) = (c', j'.tok.1) := kcell_injective (congrArg Prod.fst h)
  have h2 : j.tok.2 = j'.tok.2 := congrArg (fun x : GSem nD τ sig × ℕ × Bool => x.2) h
  have h3 : j.tok = j'.tok := Prod.ext (congrArg Prod.snd h1) h2
  exact Prod.ext (congrArg (fun x : Dev nD × Role => x.1) h1) (Duty.tok_injective h3)

def ringToks : Finset (GSem nD τ sig × ℕ × Bool) := Finset.univ.map ⟨tokOf, tokOf_injective⟩

/-- What the launch starts from: the pipeline's part and the ring's. -/
def u₀ : UU := (initOf (Pipeline.cells cfgs cellOf_inj) (Pipeline.launchToks cfgs cellOf_inj), initOf ringCells ringToks)

section Tokens
variable (c : Dev nD)

/-- The barrier's two tokens; -/
def barToks : sProp 𝕄 := iprop(dutyTok ER (barCell c) 0 false ∗ dutyTok ER (barCell c) 0 true)
/-- the first credits'; -/
def creditToks : sProp 𝕄 := iprop(dutyTok ER (creditCell c 0) 0 false ∗ dutyTok ER (creditCell c 1) 0 false)
/-- the hops' landings, -/
def recvToks : sProp 𝕄 := bigSep (Finset.Ico 0 62) fun i => dutyTok ER (recvCell c (slotOf i)) (i / 2) false
/-- sends, -/
def sendToks : sProp 𝕄 := bigSep (Finset.Ico 0 62) fun i => dutyTok ER (sendCell c (slotOf i)) (i / 2) false
/-- and further credits. -/
def nextToks : sProp 𝕄 := bigSep (Finset.Ico 0 62) fun i => dutyTok ER (creditCell c (slotOf i)) (i / 2 + 1) false

/-- The tokens of a device's own cells. -/
def toks : sProp 𝕄 := iprop(barToks c ∗ creditToks c ∗ recvToks c ∗ sendToks c ∗ nextToks c)

/-- The tokens a device pays with. -/
def payToks : sProp 𝕄 :=
  iprop((dutyTok ER (barCell (nxt c)) 0 false ∗ dutyTok ER (barCell (prv c)) 0 true) ∗ creditToks (prv c) ∗ recvToks (nxt c) ∗ sendToks c ∗ nextToks (prv c))

/-- A family over the sixty-two hops. -/
theorem hops_eq (Ψ : ℕ → sProp 𝕄) : bigSep Finset.univ (fun i : Fin 62 => Ψ i.val) = bigSep (Finset.Ico 0 62) Ψ := by
  rw [← Finset.range_eq_Ico]
  exact Ring.bigSep_fin_eq_range 62 _ Ψ fun _ _ => rfl

/-- The tokens minted on a device's cells, gathered. -/
theorem toks_eq : (bigSep Finset.univ fun j : Duty => (dutyTok ER (tokOf (c, j)).1 (tokOf (c, j)).2.1 (tokOf (c, j)).2.2 : sProp 𝕄)) = toks c := by
  rw [bigSep_univ_sum, bigSep_univ_sum, bigSep_univ_sum, bigSep_univ_sum]
  unfold toks barToks creditToks recvToks sendToks nextToks
  rw [← hops_eq fun i => dutyTok ER (recvCell c (slotOf i)) (i / 2) false, ← hops_eq fun i => dutyTok ER (sendCell c (slotOf i)) (i / 2) false,
    ← hops_eq fun i => dutyTok ER (creditCell c (slotOf i)) (i / 2 + 1) false, bigSep_univ_eq_bigSepL [false, true] (by decide) (by decide),
    slots_two]
  rfl

end Tokens

variable (snt : ℕ → Dev nD → Vec F S1x128x2048 .bf16) (K : Dev nD × Role → ℕ)

/-- A device's positions at its cells. -/
def posAll (c : Dev nD) : sProp 𝕄 := bigSep Finset.univ fun k : Role => atPos ER (kcell (c, k)) 0 ∅ 0

/-- What the launch deals a device at first: its cells' states, positions and tokens; -/
def G (c : Dev nD) : sProp 𝕄 :=
  iprop((bigSep Finset.univ fun k : Role => roundState ER (ringRd snt) (kcell (c, k)) 0) ∗ posAll c
    ∗ (bigSep Finset.univ fun k : Role => reached ER (kcell (c, k)) 0) ∗ toks c)
/-- and in the end: the record of all the cells, its positions, the tokens it pays with. -/
def G' (c : Dev nD) : sProp 𝕄 := iprop(∃ K, records snt K ∗ posAll c ∗ payToks c)

/-- A family over all the cells, device by device. -/
theorem cells_eq (Φ : GSem nD τ sig → sProp 𝕄) :
    bigSep ringCells Φ = bigSep Finset.univ fun c : Dev nD => bigSep Finset.univ fun k : Role => Φ (kcell (c, k)) := by
  unfold ringCells
  rw [bigSep_map, bigSep_univ_prod]
  rfl

theorem fund_ring : BI.own (ER (initOf ringCells ringToks)) ⊢ (|==> bigSep Finset.univ (G snt) : sProp 𝕄) := by
  have hT : bigSep ringToks (fun x => (dutyTok ER x.1 x.2.1 x.2.2 : sProp 𝕄)) = bigSep Finset.univ fun c : Dev nD => toks c := by
    unfold ringToks
    rw [bigSep_map, bigSep_univ_prod]
    exact bigSep_congr fun c _ => toks_eq c
  iintro H
  imod (Rounds.fund ER (ringRd snt) ringCells ringToks) $$ H with ⟨Hst, Hr, Hat, Htok⟩
  imodintro
  ihave Hst := (Entails.of_eq (cells_eq fun g => roundState ER (ringRd snt) g 0)) $$ Hst
  ihave Hat := (Entails.of_eq (cells_eq fun g => atPos ER g 0 ∅ 0)) $$ Hat
  ihave Hr := (Entails.of_eq (cells_eq fun g => reached ER g 0)) $$ Hr
  ihave Htok := (Entails.of_eq hT) $$ Htok
  unfold G posAll
  simp only [bigSep_sep']
  isplitl [Hst]; · iexact Hst
  isplitl [Hat]; · iexact Hat
  isplitl [Hr]; · iexact Hr
  iexact Htok

/-! ## The semaphores -/

theorem roles_eq (Φ : Role → sProp 𝕄) :
    bigSep Finset.univ Φ = iprop(Φ .bar ∗ Φ (.credit 0) ∗ Φ (.credit 1) ∗ Φ (.recv 0) ∗ Φ (.recv 1) ∗ Φ (.send 0) ∗ Φ (.send 1)) :=
  bigSep_univ_eq_bigSepL roles (by decide) (by decide) Φ

/-- The six scoped semaphores' counters, as the launch lists them; -/
theorem ownSems0_eq (c : Dev nD) : (Pipeline.ownSems0 (Ix := ℕ) (Name := ℕ) (U := UU) (Lvl := ℕ) (Val := Elt F) (τ := τ) osem c : sProp 𝕄)
    = iprop(semVal (creditCell c 0) 0 ∗ semVal (creditCell c 1) 0 ∗ semVal (recvCell c 0) 0 ∗ semVal (recvCell c 1) 0
        ∗ semVal (sendCell c 0) 0 ∗ semVal (sendCell c 1) 0) := by
  rw [Pipeline.ownSems0_eq_of_list c osem [0, 1, 2, 3, 4, 5] (by decide) (by decide)]; rfl
/-- the one that is not scoped is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Role => semVal (kcell (c, k)) 0 : sProp 𝕄) := by
  rw [ownSems0_eq, unscopedSems0_eq, roles_eq]
  iintro ⟨H, HB⟩
  isplitl [HB]; · iexact HB
  iexact H

/-- A device's cells' invariants are set up. -/
theorem core_alloc (c : Dev nD) :
    iprop(Pipeline.ownSems0 (Ix := ℕ) (Name := ℕ) (U := UU) (Lvl := ℕ) (Val := Elt F) (τ := τ) osem c ∗ unscopedSems0 c ∗ G snt c)
      ⊢ |={Set.univ}=> iprop((bigSep Finset.univ fun k : Role => iprop(∃ κ : ℕ, cellInv ER (ringRd snt) κ (kcell (c, k))))
          ∗ posAll c ∗ (bigSep Finset.univ fun k : Role => reached ER (kcell (c, k)) 0) ∗ toks c) := by
  unfold G
  iintro ⟨Hos, Hus, Hst, Hrest⟩
  ihave Hv := (sems0_eq (F := F) c) $$ [Hos Hus]
  · isplitl [Hos] <;> iassumption
  imod (show iprop((bigSep Finset.univ fun k : Role => semVal (kcell (c, k)) 0) ∗ bigSep Finset.univ fun k : Role => roundState ER (ringRd snt) (kcell (c, k)) 0)
      ⊢ (|={Set.univ}=> bigSep Finset.univ fun k : Role => iprop(∃ κ : ℕ, cellInv ER (ringRd snt) κ (kcell (c, k))) : sProp 𝕄) from by
        rw [← bigSep_sep']
        exact (bigSep_mono fun k _ => (Rounds.body_intro ER (ringRd snt) (kcell (c, k))).trans inv_alloc).trans (bigSep_fupd _ _)) $$ [Hv Hst] with Hinv
  · isplitl [Hv] <;> iassumption
  imodintro
  isplitl [Hinv]; · iexact Hinv
  iexact Hrest

/-- The tokens dealt around the ring. -/
theorem toks_around : (bigSep Finset.univ fun c : Dev nD => (toks c : sProp 𝕄)) ⊢ bigSep Finset.univ fun c : Dev nD => payToks c := by
  unfold toks payToks barToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring.symm (fun c : Dev nD => (creditToks c : sProp 𝕄)),
    bigSep_univ_equiv ring (fun c : Dev nD => (recvToks c : sProp 𝕄)),
    bigSep_univ_equiv ring.symm (fun c : Dev nD => (nextToks c : sProp 𝕄))]
  exact BI.Entails.refl _

/-- What lasts may be given to each. -/
theorem give_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Role => iprop(∃ κ : ℕ, cellInv ER (ringRd snt) κ (kcell (c, k))))
          ∗ posAll c ∗ (bigSep Finset.univ fun k : Role => reached ER (kcell (c, k)) 0) ∗ toks c) : sProp 𝕄)
      ⊢ bigSep Finset.univ (G' snt) := by
  rw [bigSep_sep', bigSep_sep', bigSep_sep', ← bigSep_univ_prod (fun ck : Dev nD × Role => iprop(∃ κ : ℕ, cellInv ER (ringRd snt) κ (kcell ck))),
    ← bigSep_univ_prod (fun ck : Dev nD × Role => (reached ER (kcell ck) 0 : sProp 𝕄))]
  iintro ⟨HI, Hat, #HR, Htok⟩
  ihave HK := (BI.bigSep_exists_pi Finset.univ (fun (ck : Dev nD × Role) (κ : ℕ) => (cellInv ER (ringRd snt) κ (kcell ck) : sProp 𝕄))) $$ HI
  icases HK with ⟨%K, #HI⟩
  ihave Htk := (toks_around (F := F)) $$ Htok
  iapply (give_each (R := records snt K) (Φ := fun c => iprop(posAll c ∗ payToks c)) fun c _ => by
    unfold G'
    iintro H
    iexists K
    iexact H)
  isplitr
  · unfold records
    isplitl; · iexact HI
    iexact HR
  rw [bigSep_sep']
  isplitl [Hat]; · iexact Hat
  iexact Htk

/-- The global step: the semaphores of every device at once. -/
theorem glob : (bigSep Finset.univ fun c => iprop(Pipeline.ownSems0 (Ix := ℕ) (Name := ℕ) (U := UU) (Lvl := ℕ) (Val := Elt F) (τ := τ) osem c ∗ unscopedSems0 c ∗ G snt c) : sProp 𝕄)
    ⊢ |={Set.univ}=> bigSep Finset.univ (G' snt) :=
  ((bigSep_mono fun c _ => core_alloc snt c).trans (bigSep_fupd _ _)).trans (BI.fupd_mono (regroup snt))

/-! ## The claims on what the others owe -/

/-- A device's claims: two units at its barrier; by hop a credit and a landing; the last two credits. -/
def claims (c : Dev nD) : sProp 𝕄 :=
  iprop(cred (tallyAt (barCell c) 0 2)
    ∗ ((bigSep (Finset.Ico 0 62) fun i => cred (tallyAt (recvCell c (slotOf i)) i N))
      ∗ bigSep (Finset.Ico 0 62) fun i => cred (tallyAt (creditCell c (slotOf i)) i 1))
    ∗ (cred (tallyAt (creditCell c 0) 62 1) ∗ cred (tallyAt (creditCell c 1) 63 1)))

theorem creds (c : Dev nD) : (Pipeline.launchCred O₀ c : sProp 𝕄) ⊢ claims c := by
  have e : (O₀ : Dev nD → CellTallies nD τ sig ℕ) = fun d => (((∑ i ∈ Finset.Ico 0 62, tallyAt (recvCell (nxt d) (slotOf i)) i N)
      + ∑ i ∈ Finset.Ico 0 64, tallyAt (creditCell (prv d) (slotOf i)) i 1) + tallyAt (barCell (nxt d)) 0 1) + tallyAt (barCell (prv d)) 0 1 := rfl
  rw [e, Pipeline.launchCred_add, Pipeline.launchCred_add, Pipeline.launchCred_add, Pipeline.launchCred_sum, Pipeline.launchCred_sum]
  have e64 (Φ : ℕ → sProp 𝕄) : bigSep (Finset.Ico 0 64) Φ = iprop(Φ 63 ∗ Φ 62 ∗ bigSep (Finset.Ico 0 62) Φ) := by
    rw [show Finset.Ico 0 64 = insert 63 (insert 62 (Finset.Ico 0 62)) by decide, BI.bigSep_insert (by decide), BI.bigSep_insert (by decide)]
    rfl
  rw [e64]
  have hr : bigSep (Finset.Ico 0 62) (fun i => (Pipeline.launchCred (fun d : Dev nD => tallyAt (recvCell (nxt d) (slotOf i)) i N) c : sProp 𝕄))
      ⊢ bigSep (Finset.Ico 0 62) fun i => cred (tallyAt (recvCell c (slotOf i)) i N) :=
    bigSep_mono fun i _ => Pipeline.launchCred_tallyAt (SemLoc.dma (recvS (slotOf i))) nxt prv nxt_prv prv_nxt i N c
  have hc : bigSep (Finset.Ico 0 62) (fun i => (Pipeline.launchCred (fun d : Dev nD => tallyAt (creditCell (prv d) (slotOf i)) i 1) c : sProp 𝕄))
      ⊢ bigSep (Finset.Ico 0 62) fun i => cred (tallyAt (creditCell c (slotOf i)) i 1) :=
    bigSep_mono fun i _ => Pipeline.launchCred_tallyAt (SemLoc.reg (creditS (slotOf i))) prv nxt prv_nxt nxt_prv i 1 c
  unfold claims
  iintro ⟨⟨⟨H1, H63, H62, H2⟩, H3⟩, H4⟩
  isplitl [H3 H4]
  · rw [← tallyAt_add (barCell c) 0 1 1]
    iapply (cred_add _ _).2
    isplitl [H3]
    · iapply (Pipeline.launchCred_tallyAt (SemLoc.reg barS) nxt prv nxt_prv prv_nxt 0 1 c); iexact H3
    · iapply (Pipeline.launchCred_tallyAt (SemLoc.reg barS) prv nxt prv_nxt nxt_prv 0 1 c); iexact H4
  isplitl [H1 H2]
  · isplitl [H1]
    · iapply hr; iexact H1
    · iapply hc; iexact H2
  isplitl [H62]
  · iapply (Pipeline.launchCred_tallyAt (SemLoc.reg (creditS (slotOf 62))) prv nxt prv_nxt nxt_prv 62 1 c); iexact H62
  · iapply (Pipeline.launchCred_tallyAt (SemLoc.reg (creditS (slotOf 63))) prv nxt prv_nxt nxt_prv 63 1 c); iexact H63

/-- The shares of the protocol a body starts from are what the launch deals. -/
theorem shares_intro (c : Dev nD) : iprop(posAll c ∗ payToks c ∗ claims c) ⊢ (iprop(barRes c ∗ hopRes c ∗ posRes c) : sProp 𝕄) := by
  unfold posAll payToks claims creditToks recvToks sendToks nextToks barRes hopRes posRes hopToks
  rw [roles_eq]
  simp only [bigSep_sep']
  iintro ⟨⟨PB, PC0, PC1, PR0, PR1, PS0, PS1⟩, ⟨⟨TN, TP⟩, TC, TR, TS, TX⟩, CB, ⟨CR, CC⟩, CL⟩
  isplitl [PB TN TP CB]
  · isplitl [TP]; · iexact TP
    isplitl [TN]; · iexact TN
    isplitl [CB]; · iexact CB
    iexact PB
  isplitl [TC TR TS TX CR CC CL]
  · isplitl [TR TS TX CC CR]
    · isplitl [TR]; · iexact TR
      isplitl [TS]; · iexact TS
      isplitl [TX]; · iexact TX
      isplitl [CC]; · iexact CC
      iexact CR
    isplitl [TC]; · iexact TC
    iexact CL
  isplitl [PC0 PC1]
  · isplitl [PC0]; · iexact PC0
    iexact PC1
  isplitl [PR0 PR1]
  · isplitl [PR0]; · iexact PR0
    iexact PR1
  isplitl [PS0]; · iexact PS0
  iexact PS1

end Cert.Proof

end
-- ==== Proof.Launch.lean ====
/-
  The run of the kernel on the thirty-two devices: from any memory with zero counters every weakly fair execution ends, each
  device's output holding the result computed from all the devices' arguments, the arguments unchanged, every counter at zero.
-/
module

public import proofs.«01_k».proof.Proof.Start
public import proofs.«01_k».proof.Proof.Gen.KernelIdeal.Points
public import Idealize.ShloMosaic.Lib.Pipeline.CollectiveSegs

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

-- the memory and the generators' registers at launch
variable (m : (ℓ : Loc nD τ sig) → Buf (Elt F) ℓ) (ρ : Dev nD → PrngReg)

abbrev s₀ : MemSt nD τ sig (Elt F) := ⟨m, fun _ => 0, ρ⟩

/-- The arguments as the kernel's body finds them. -/
def argX (c : Dev nD) : Vec F S4096x128 .bf16 := (win0_0.blk (0 : Fin 1)).view.read (Elt F) (m ((c : Thread nD τ).loc main_arg0))
def argW (c : Dev nD) : Vec F S128x2048 .bf16 := (win0_1.blk (0 : Fin 1)).view.read (Elt F) (m ((c : Thread nD τ).loc main_arg1))

/-- What each device sends on each hop. -/
abbrev sntM : ℕ → Dev nD → Vec F S1x128x2048 .bf16 := snt (argX m) (argW m)

/-- The protocol's shares at launch. -/
def start (c : Dev nD) : sProp 𝕄 := iprop(G' (sntM m) c ∗ claims c ∗ levAts L lv)

/-- The two buffers of chunks, whole. -/
def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ bufs c)
def Φ₁ (c : Dev nD) : sProp 𝕄 := iprop(semVal (barCell c) 0 ∗ ownZero c ∗ bufs c)

/-- The launch's data: what the windows hold before and after, what a device holds beside them, what it owes. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => argX m c
    | ⟨1, _⟩ => argW m c
    | ⟨2, _⟩ => result (argX m) (argW m) c
  Φ t := match t with
    | ⟨0, _⟩ => Φ₀ m c
    | ⟨_ + 1, _⟩ => Φ₁ c
  q _ := fullShare
  owed t := match t with
    | ⟨0, _⟩ => O₀ c
    | ⟨_ + 1, _⟩ => 0

def t₀ : Fin cfg0.N := t0_0
theorem fin_N (t : Fin cfg0.N) : t = t₀ := fin_N0 t

theorem bigSep_W (Φ : Fin cfg0.W → sProp 𝕄) : bigSep Finset.univ Φ = iprop(Φ (0 : Fin 3) ∗ Φ (1 : Fin 3) ∗ Φ (2 : Fin 3)) := bigSep_W0 Φ

/-- To own a whole buffer is to hold it at its contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt 0 t₀.succ ∗ stg c cc0_stg0_0 (argX m c) ∗ stg c cc0_stg1_0 (argW m c)
    ∗ stg c cc0_stg2_0 (result (argX m) (argW m) c))

/-- What the pipeline hands the body is what the body needs, under some names of the invariants; -/
theorem pre_intro (c : Dev nD) : bodyPre m ρ c ⊢ iprop(∃ K f, runPre (argX m) (argW m) K c f) := by
  unfold bodyPre Φ₀ start G' bufs
  iintro ⟨⟨⟨⟨%K, HR, Hpos, Htok⟩, Hcl, Hlev⟩, ⟨%fs, Hs⟩, ⟨%fr, Hr⟩⟩, Ho, ⟨%d0, %g0, %hg0, Hx⟩, ⟨%d1, %g1, %hg1, Hw⟩, ⟨%d2, %g2, %hg2, Hout⟩⟩
  have hx : g0 = argX m c := by rw [hg0]; unfold Dat.before; rw [if_pos (fetch0_0 t₀)]; rfl
  have hw : g1 = argW m c := by rw [hg1]; unfold Dat.before; rw [if_pos (fetch0_1 t₀)]; rfl
  subst hx hw
  unfold Dat.owesAt Pipeline.owesWithin
  icases Ho with ⟨%W, %hW, HO⟩
  rw [show (dats m ρ 0 c).owed t₀.castSucc = O₀ c from rfl]
  ihave Hsh := (shares_intro (F := F) c) $$ [Hpos Htok Hcl]
  · isplitl [Hpos]; · iexact Hpos
    isplitl [Htok]; · iexact Htok
    iexact Hcl
  icases Hsh with ⟨Hbar, Hhop, Hps⟩
  iexists K
  iexists g2
  unfold runPre slotPts
  isplitl [HR]; · iexact HR
  isplitl [Hlev]; · iexact Hlev
  isplitl [Hbar]; · iexact Hbar
  isplitl [Hhop]; · iexact Hhop
  isplitl [Hps]; · iexact Hps
  isplitl [Hs Hr]
  · isplitl [Hs]
    · iapply (send_split c fs); iexact Hs
    · iapply (recv_split c fr); iexact Hr
  isplitl [HO]; · iexists W; iexact HO
  isplitl [Hx]; · iexact Hx
  isplitl [Hw]; · iexact Hw
  iexact Hout

/-- and what the body leaves is what the pipeline asks back. -/
theorem post_elim (c : Dev nD) : runPost (argX m) (argW m) c ⊢ bodyPost m ρ c := by
  unfold runPost bodyPost Φ₁ slotPts bufs Dat.owesAt Pipeline.owesWithin
  rw [show (dats m ρ 0 c).owed t₀.succ = 0 from rfl]
  iintro ⟨⟨%W, HO⟩, Hb, Hz, ⟨Hs, Hr⟩, Hx, Hw, Ho⟩
  isplitl [Hb Hz Hs Hr]
  · isplitl [Hb]; · iexact Hb
    isplitl [Hz]; · iexact Hz
    isplitl [Hs]
    · iapply (send_join c (m ((c : Thread nD τ).loc cc0_scratch0))); iexact Hs
    · iapply (recv_join c (m ((c : Thread nD τ).loc cc0_scratch1))); iexact Hr
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 4000 in
/-- The body's obligation. -/
theorem body_obligation (c : Dev nD) : BodyObligation (dats (F := F) m ρ 0 c) (defs₀ (F := F)) 𝒱₀ 0 Set.univ := fun t => by
  rw [fin_N t]
  rw [bigSep_W, bigSep_W]
  simp only [owns_whole]
  show bodyPre m ρ c ⊢ wp frame (wpE (defs₀ (F := F)) 𝒱₀ (c : Thread nD τ) none) Set.univ (theBody (F := F)) (fun _ => bodyPost m ρ c)
  refine (pre_intro m ρ c).trans ?_
  iintro ⟨%K, %f, H⟩
  iapply ((sound_body (argX m) (argW m) K c f).trans (wp_wand _ _ _)) $$ [H]
  · iexact H
  iintro %u H
  iapply (post_elim m ρ c)
  iexact H

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (sntM m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show Pipeline.scopedRest cfg0.spec c = bufs c from scopedRest0_eq c]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show Pipeline.scopedRest cfg0.spec c = bufs c from scopedRest0_eq c, ownSems0_eq, unscopedSems0_eq]
  unfold Φ₁ ownZero
  iintro ⟨Hb, ⟨⟨C0, C1⟩, ⟨R0, R1⟩, S0, S1⟩, Hr⟩
  isplitl [Hb]; · iexact Hb
  isplitl [C0 C1 R0 R1 S0 S1]
  · isplitl [C0]; · iexact C0
    isplitl [C1]; · iexact C1
    isplitl [R0]; · iexact R0
    isplitl [R1]; · iexact R1
    isplitl [S0]; · iexact S0
    iexact S1
  iexact Hr

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

/-- Every window's array holds that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution ends, with every window's array as computed and every counter at zero. -/
theorem run_windows : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (sntM m)) (G' := G' (sntM m)) (u₀ := u₀)
    (hu₀ := by
      unfold u₀
      iintro Hu
      ihave H := (ownU_pair _ _) $$ Hu
      icases H with ⟨HP, HX⟩
      imod (fund_ring (sntM m)) $$ HX with HG
      imodintro
      isplitl [HP] <;> iassumption)
    (hglob := glob (sntM m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold in the end -/

/-- The arguments as the body finds them are the argument arrays. -/
theorem argX_eq (c : Dev nD) : argX m c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
theorem argW_eq (c : Dev nD) : argW m c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _

theorem final_x (c : Dev nD) : finalA m ρ c (0 : Fin 3) = m ((c : Thread nD τ).loc main_arg0) := (dats (F := F) m ρ 0 c).arrAt_in (0 : Fin 3) rfl _
theorem final_w (c : Dev nD) : finalA m ρ c (1 : Fin 3) = m ((c : Thread nD τ).loc main_arg1) := (dats (F := F) m ρ 0 c).arrAt_in (1 : Fin 3) rfl _

/-- The result array ends as the body left its buffer. -/
theorem final_o (c : Dev nD) : finalA m ρ c (2 : Fin 3) = result (argX m) (argW m) c := by
  have h : (win0_2.blk (0 : Fin 1)).view.read (Elt F) (finalA m ρ c (2 : Fin 3)) = result (argX m) (argW m) c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from flush0_2 _, if_pos rfl]
    exact View.read_write_univ _ _
  exact (Memref.read_access_unit_zero (Elt F) main_v1 (off := fun a => (win0_2.index (0 : Fin 1)) a * main_v1.ty.shape.size a)
    (funext fun a => by fin_cases a <;> decide) (fun a => by fin_cases a <;> decide) _).symm.trans h

/-- From any memory with zero counters every weakly fair execution ends; each device's result is the kernel's function of all
    the devices' arguments, the arguments are unchanged, every counter is zero. -/
theorem run_main : θ_run defs (onTc (τ := τ) (main (F := F))) ⟨m, fun _ => 0, ρ⟩ (fun r =>
    (∀ c : Dev nD, r.2.mem ((c : Thread nD τ).loc main_v1) = result (fun d => m ((d : Thread nD τ).loc main_arg0)) (fun d => m ((d : Thread nD τ).loc main_arg1)) c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun r h => ⟨fun c =>
      ⟨(h.1 c (2 : Fin 3)).trans ((final_o m ρ c).trans (congrArg₂ (fun X Wt => result X Wt c) (funext (argX_eq m)) (funext (argW_eq m)))),
        (h.1 c (0 : Fin 3)).trans (final_x m ρ c), (h.1 c (1 : Fin 3)).trans (final_w m ρ c)⟩, h.2⟩)
    (run_windows m ρ)

end Cert.Proof

end
-- ==== Proof.Frames.lean ====
/-
  The three frame claims: each program ends, with its arguments unchanged and every counter at zero.
-/
module

public import proofs.«01_k».proof.Defs
public import proofs.«01_k».proof.Proof.Gen.Kernel
public import proofs.«01_k».proof.Proof.Launch
public import proofs.«01_k».proof.Proof.Ref

@[expose] public section

noncomputable section

namespace Cert.Proof

open Idealize.ShloMosaic Idealize.SL.Sem

section text

variable {F : FTy → Type} [FloatOps F]

/-- The kernel and the idealized kernel have one table of bodies, their texts being the same. -/
theorem bodies_eq : Cert.Kernel.defs₀ (F := F) = Cert.KernelIdeal.defs₀ :=
  congrArg Defs.onTc (funext fun a => by
    obtain rfl : a = 0 := Subsingleton.elim _ _
    exact funext fun ⟨t, s⟩ => rfl)

/-- With the pipeline's labels added they have one table still. -/
theorem defs_eq : Cert.Kernel.defs (F := F) = Cert.KernelIdeal.defs :=
  congrArg (Pipeline.defs Cert.KernelIdeal.pcfgs) bodies_eq

/-- The frame of the idealized kernel's text, over any floats. -/
theorem frame_text (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩) (run_main m ρ)

end text

/-- The kernel's frame, over the machine's floats: its text is the idealized kernel's. -/
theorem frame_kernel : Cert.quiescent_Kernel := by
  intro m ρ _
  rw [defs_eq]
  exact frame_text (F := Bits) m ρ

/-- The idealized kernel's frame. -/
theorem frame_ideal : Cert.quiescent_KernelIdeal :=
  fun m ρ _ => frame_text (F := Ideal) m ρ

/-- The reference's frame. -/
theorem frame_reference : Cert.quiescent_ReferenceIdeal :=
  fun m ρ _ => (θ_run Cert.ReferenceIdeal.defs _ _).mono (fun _ h => ⟨fun c => (h.1 c).2, h.2⟩)
    (Ref.run_main (F := Ideal) m ρ)

end Cert.Proof

end
-- ==== Proof.Equation.lean ====
/-
  The kernel and the reference compute the same function over the extended reals: with the arguments cut over the devices the
  sum of the local products is the whole product, the greatest element is the same, and so is every quantised element. With
  the two runs this is the algebraic claim.
-/
module

public import proofs.«01_k».proof.Proof.Epilogue
public import proofs.«01_k».proof.Proof.Ref
public import proofs.«01_k».proof.Proof.Frames
public import Idealize.ShloMosaic.Lib.IdealHost
public import Idealize.ShloMosaic.Lib.StackMember

@[expose] public section

noncomputable section

namespace Cert.Proof

open Idealize.ShloMosaic Idealize.ShloMosaic.ValueIdx Idealize.SL.Sem
open Cert.KernelIdeal (S4096x128 S128x2048)
open Cert.ReferenceIdeal Cert.ReferenceIdeal.Gen
open scoped BigOperators

/-! ## The product -/

section Product

variable (x : FVec Ideal S4096x4096 .bf16) (w : FVec Ideal S4096x2048 .bf16)

/-- Device `d`'s columns of the first argument. -/
abbrev partX (d : Fin 32) : Vec Ideal S4096x128 .bf16 := Layout.block ⟨2, ![4096, 128]⟩ ⟨2, ![4096, 4096]⟩ 1 32 d x

/-- Device `d`'s rows of the second argument. -/
abbrev partW (d : Fin 32) : Vec Ideal S128x2048 .bf16 := Layout.block ⟨2, ![128, 2048]⟩ ⟨2, ![4096, 2048]⟩ 0 32 d w

/-- The product of the whole arguments. -/
def product (j : S4096x2048.Idx) : EReal := ∑ k : Fin 4096, (x (ix2 (j 0) k) : EReal) * w (ix2 k (j 1))

/-- A column of device `d`'s part is a column of the whole. -/
theorem partX_apply (d : Fin 32) (r : Fin 4096) (k : Fin 128) : partX x d (ix2 r k) = x (ix2 r (finProdFinEquiv (d, k))) := by
  refine congrArg x (funext fun a => Fin.ext ?_)
  match a with
  | ⟨0, _⟩ => rfl
  | ⟨1, _⟩ => exact (show d.val * 128 + k.val = k.val + 128 * d.val by omega)

/-- A row of device `d`'s part is a row of the whole. -/
theorem partW_apply (d : Fin 32) (k : Fin 128) (l : Fin 2048) : partW w d (ix2 k l) = w (ix2 (finProdFinEquiv (d, k)) l) := by
  refine congrArg w (funext fun a => Fin.ext ?_)
  match a with
  | ⟨0, _⟩ => exact (show d.val * 128 + k.val = k.val + 128 * d.val by omega)
  | ⟨1, _⟩ => rfl

/-- The local products of the parts add up to the product of the whole. -/
theorem sum_gemm (j : S4096x2048.Idx) : ∑ d : Fin 32, gemm (partX x d) (partW w d) j = product x w j := by
  obtain ⟨r, l, rfl⟩ : ∃ (r : Fin 4096) (l : Fin 2048), j = ix2 r l := ⟨_, _, eq_ix2 j⟩
  refine (Finset.sum_congr rfl fun d _ => (gemm_apply _ _ r l).trans (Finset.sum_congr rfl fun k _ =>
    congrArg₂ (fun a b : EReal => a * b) (partX_apply x d r k) (partW_apply w d k l))).trans ?_
  refine (Fintype.sum_prod_type' fun (d : Fin 32) (k : Fin 128) =>
    (x (ix2 r (finProdFinEquiv (d, k))) : EReal) * w (ix2 (finProdFinEquiv (d, k)) l)).symm.trans ?_
  exact Equiv.sum_comp (finProdFinEquiv (m := 32) (n := 128)) fun k : Fin 4096 => (x (ix2 r k) : EReal) * w (ix2 k l)

/-- After the last hop every device holds the product of the whole arguments. -/
theorem st_product (c : Dev Cert.KernelIdeal.nD) : st (partX x) (partW w) 62 c = product x w :=
  funext fun j => (st_final _ _ c j).trans (sum_gemm x w j)

/-- The reference's clipped product element by element. -/
theorem refRelu_apply (j : S4096x2048.Idx) : Ref.refRelu x w j = max (product x w j) 0 := by
  obtain ⟨r, l, rfl⟩ : ∃ (r : Fin 4096) (l : Fin 2048), j = ix2 r l := ⟨_, _, eq_ix2 j⟩
  refine congrArg₂ max ?_ Ideal.ofBits_zero_f32
  exact StackMember.dotGeneral_plain_apply (m := 4096) (k := 4096) (n := 2048) none _ _ r l

end Product

/-! ## The greatest element -/

/-- An extended real clipped below at zero is its own absolute value. -/
theorem abs_clip (y : EReal) : max (max y 0) (-(max y 0)) = max y 0 :=
  max_eq_left ((EReal.neg_le_zero.mpr (le_max_right y 0)).trans (le_max_right y 0))

/-- The reference's greatest absolute value is at most `b` when every absolute value is. -/
theorem refMax_le (y : FVec Ideal S4096x2048 .f32) (b : EReal) :
    ((Host.reduce (FloatOps.maximumf (F := Ideal) (φ := .f32)) (Host.absf y) (constant (F := Ideal) S_ .f32 0xFF800000#32)
      reducesTo_S4096x2048_S_d0_1 h_S_ ix0 : Ideal .f32) : EReal) ≤ b
      ↔ ∀ j, max (y j : EReal) (-(y j)) ≤ b := by
  rw [Host.reduce_eq_fold, Finset.filter_true_of_mem (fun x _ => funext fun a => a.elim0)]
  refine (Finset.fold_max_le (β := EReal) b).trans ?_
  rw [show (constant S_ .f32 0xFF800000#32 (Shape.Idx.first h_S_) : Ideal .f32) = (⊥ : EReal) from ofBits_least]
  exact ⟨fun h j => h.2 j (Finset.mem_univ _), fun h => ⟨bot_le, fun j _ => h j⟩⟩

/-- The kernel's step for an array is the reference's step for the array clipped below at zero. -/
theorem scale_eq (f : S4096x2048.Idx → EReal) (y : FVec Ideal S4096x2048 .f32) (h : ∀ j, y j = max (f j) 0) :
    (scaleOf (F := Ideal) f : EReal) = Ref.refScale y ix0 := by
  refine congrArg (fun t => Ideal.div t (Ideal.ofBits .f32 0x42FE0000#32)) (eq_of_forall_ge_iff fun b => ?_)
  rw [refMax_le]
  refine (amaxTo_le f b 16 le_rfl).trans ⟨fun hb j => ?_, fun hb => ?_⟩
  · rw [h, abs_clip]
    exact max_le (hb.2 j (show (j 0).val < 4096 from (j 0).isLt)) hb.1
  · have hb' : ∀ j, max (f j) 0 ≤ b := fun j => by have := hb j; rwa [h, abs_clip] at this
    exact ⟨(le_max_right _ _).trans (hb' (ix2 0 0)), fun j _ => (le_max_left _ _).trans (hb' j)⟩

/-! ## The result -/

/-- The reference's quantised array element by element. -/
theorem refQuant_apply (s : FVec Ideal S_ .f32) (y : FVec Ideal S4096x2048 .f32) (j : S4096x2048.Idx) :
    Ref.refQuant s y j = quantOne (s ix0) (y j) := by
  have hs : ∀ t : FVec Ideal S_ .f32, Ref.spread t j = t ix0 := fun t => broadcastInDim_scalar_apply _ t j
  show min (Ref.spread _ j) (max (Ref.spread _ j) (FloatOps.roundeven (F := Ideal) (φ := .f32)
    (Ideal.div (y j) (Ref.spread s j)))) * Ref.spread s j = _
  rw [hs, hs, hs]
  rfl

/-- On every device the kernel's result from the parts is the reference's result from the whole arguments. -/
theorem result_eq (x : FVec Ideal S4096x4096 .bf16) (w : FVec Ideal S4096x2048 .bf16) (c : Dev Cert.KernelIdeal.nD) :
    result (partX x) (partW w) c = Ref.refOut x w := by
  funext j
  unfold result Ref.refOut
  rw [st_product, quant_apply, refQuant_apply, scale_eq (product x w) _ (refRelu_apply x w), refRelu_apply]

/-- The algebraic claim: from arguments that are the parts of the reference's, every device ends with the reference's result. -/
theorem algebraic : Cert.algebraic_KernelIdeal_ReferenceIdeal := by
  intro m ρ m' ρ' _ hm
  refine ⟨Ref.refOut (F := Ideal) (m' (((0 : Dev Cert.ReferenceIdeal.nD).tc : Thread Cert.ReferenceIdeal.nD Cert.ReferenceIdeal.τ).loc main_arg0))
    (m' (((0 : Dev Cert.ReferenceIdeal.nD).tc : Thread Cert.ReferenceIdeal.nD Cert.ReferenceIdeal.τ).loc main_arg1)), ?_, ?_⟩
  · refine (θ_run Cert.KernelIdeal.defs _ _).mono (fun r h c => ⟨(h.1 c).1.trans ?_, (h.1 c).2⟩) (run_main (F := Ideal) m ρ)
    refine Eq.trans ?_ (result_eq _ _ c)
    exact congrArg₂ (fun X W => result (F := Ideal) X W c) (funext fun d => (hm d).1) (funext fun d => (hm d).2)
  · exact (θ_run Cert.ReferenceIdeal.defs _ _).mono (fun r h => h.1 0) (Ref.run_main (F := Ideal) m' ρ')

end Cert.Proof

end
-- ==== Proof.lean ====
/-
  The certificate: the two programs and the reference meet their stated facts, and every claim made of them holds.
-/
module

public import proofs.«01_k».proof.Proof.Equation

@[expose] public section

namespace Cert.Proof

/-- All the claims: the three frames, the idealization and the equation with the reference. -/
theorem claim : Cert.Claim :=
  ⟨Cert.Kernel.Gen.facts, Cert.KernelIdeal.Gen.facts, Cert.ReferenceIdeal.Gen.facts,
    frame_kernel, frame_ideal, frame_reference, trivial, algebraic⟩

end Cert.Proof
